-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S2x128x12288 : Shape := ⟨3, ![2, 128, 12288]⟩
abbrev S12288 : Shape := ⟨1, ![12288]⟩
abbrev S256x2 : Shape := ⟨2, ![256, 2]⟩
abbrev S6144x4096 : Shape := ⟨2, ![6144, 4096]⟩
abbrev S12x4096 : Shape := ⟨2, ![12, 4096]⟩
abbrev S_ : Shape := ⟨0, ![]⟩

class Facts : Prop where
  bitsLt_bf16_f32 : FTy.bits .bf16 < FTy.bits .f32
  bcast_S_S2x128x12288 : S_.BroadcastsInDim S2x128x12288 (![] : Fin 0 → Fin S2x128x12288.rank)

variable [Facts]

def fn {F : FTy → Type} [FloatOps F] (main_arg0 : FVec F S2x128x12288 .bf16) (main_arg1 : IVec S12288 8) (main_arg2 : IVec S256x2 16) (main_arg3 : IVec S6144x4096 8) (main_arg4 : FVec F S12x4096 .f32) : IVec S2x128x12288 1 :=
  let main_v0 : FVec F S2x128x12288 .f32 := (extf .f32 · bitsLt_bf16_f32) main_arg0
  let main_v1 : FVec F S2x128x12288 .f32 := Host.absf main_v0
  let main_cst : FVec F S_ .f32 := constant S_ .f32 0x7F800000#32
  let main_v2 : FVec F S2x128x12288 .f32 := broadcastInDim S2x128x12288 ![] bcast_S_S2x128x12288 main_cst
  let main_v3 : IVec S2x128x12288 1 := cmpf .olt main_v1 main_v2
  main_v3
-- ==== Kernel.lean ====
abbrev S2x128x12288 : Shape := ⟨3, ![2, 128, 12288]⟩
abbrev S12288 : Shape := ⟨1, ![12288]⟩
abbrev S256x2 : Shape := ⟨2, ![256, 2]⟩
abbrev S6144x4096 : Shape := ⟨2, ![6144, 4096]⟩
abbrev S12x4096 : Shape := ⟨2, ![12, 4096]⟩
abbrev S256x12288 : Shape := ⟨2, ![256, 12288]⟩
abbrev S12x1x1024 : Shape := ⟨3, ![12, 1, 1024]⟩
abbrev S256 : Shape := ⟨1, ![256]⟩
abbrev S2x1x128 : Shape := ⟨3, ![2, 1, 128]⟩
abbrev S2x8x128 : Shape := ⟨3, ![2, 8, 128]⟩
abbrev S12x1x4096 : Shape := ⟨3, ![12, 1, 4096]⟩
abbrev S256x4096 : Shape := ⟨2, ![256, 4096]⟩
abbrev S256x1024 : Shape := ⟨2, ![256, 1024]⟩
abbrev S1x1x1024 : Shape := ⟨3, ![1, 1, 1024]⟩
abbrev S512x512 : Shape := ⟨2, ![512, 512]⟩
abbrev S1x1x512 : Shape := ⟨3, ![1, 1, 512]⟩
abbrev S256x512 : Shape := ⟨2, ![256, 512]⟩
abbrev S12x256x1024 : Shape := ⟨3, ![12, 256, 1024]⟩
abbrev S256x256 : Shape := ⟨2, ![256, 256]⟩
abbrev S1024x512 : Shape := ⟨2, ![1024, 512]⟩
abbrev S1x1x256 : Shape := ⟨3, ![1, 1, 256]⟩
abbrev S1x256 : Shape := ⟨2, ![1, 256]⟩
abbrev S1x256x256 : Shape := ⟨3, ![1, 256, 256]⟩
abbrev S1x8x128 : Shape := ⟨3, ![1, 8, 128]⟩
abbrev S8x128 : Shape := ⟨2, ![8, 128]⟩
abbrev S1x1x128 : Shape := ⟨3, ![1, 1, 128]⟩
abbrev S1x128 : Shape := ⟨2, ![1, 128]⟩
abbrev S32x128 : Shape := ⟨2, ![32, 128]⟩
abbrev S8x128x1 : Shape := ⟨3, ![8, 128, 1]⟩
abbrev S16x128 : Shape := ⟨2, ![16, 128]⟩
abbrev S1x256x1024 : Shape := ⟨3, ![1, 256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S2x128x12288, .bf16⟩
  | .hbm, ⟨1, _⟩ => ⟨S12288, .i8⟩
  | .hbm, ⟨2, _⟩ => ⟨S256x2, .i16⟩
  | .hbm, ⟨3, _⟩ => ⟨S6144x4096, .i8⟩
  | .hbm, ⟨4, _⟩ => ⟨S12x4096, .f32⟩
  | .hbm, ⟨5, _⟩ => ⟨S256x12288, .bf16⟩
  | .hbm, ⟨6, _⟩ => ⟨S12288, .i32⟩
  | .hbm, ⟨7, _⟩ => ⟨S12288, .bf16⟩
  | .hbm, ⟨8, _⟩ => ⟨S12x1x1024, .bf16⟩
  | .hbm, ⟨9, _⟩ => ⟨S256, .i32⟩
  | .hbm, ⟨10, _⟩ => ⟨S2x1x128, .i32⟩
  | .hbm, ⟨11, _⟩ => ⟨S2x8x128, .i32⟩
  | .hbm, ⟨12, _⟩ => ⟨S12x4096, .bf16⟩
  | .hbm, ⟨13, _⟩ => ⟨S12x1x4096, .bf16⟩
  | .hbm, ⟨14, _⟩ => ⟨S256x4096, .bf16⟩
  | .hbm, ⟨15, _⟩ => ⟨S256x12288, .bf16⟩
  | .local _ .vmem, ⟨0, _⟩ => ⟨S256x1024, .bf16⟩
  | .local _ .vmem, ⟨1, _⟩ => ⟨S256x1024, .bf16⟩
  | .local _ .vmem, ⟨2, _⟩ => ⟨S1x1x1024, .bf16⟩
  | .local _ .vmem, ⟨3, _⟩ => ⟨S1x1x1024, .bf16⟩
  | .local _ .vmem, ⟨4, _⟩ => ⟨S2x8x128, .i32⟩
  | .local _ .vmem, ⟨5, _⟩ => ⟨S512x512, .i8⟩
  | .local _ .vmem, ⟨6, _⟩ => ⟨S512x512, .i8⟩
  | .local _ .vmem, ⟨7, _⟩ => ⟨S1x1x512, .bf16⟩
  | .local _ .vmem, ⟨8, _⟩ => ⟨S1x1x512, .bf16⟩
  | .local _ .vmem, ⟨9, _⟩ => ⟨S256x512, .bf16⟩
  | .local _ .vmem, ⟨10, _⟩ => ⟨S256x512, .bf16⟩
  | .local _ .vmem, ⟨11, _⟩ => ⟨S256x1024, .bf16⟩
  | .local _ .vmem, ⟨12, _⟩ => ⟨S256x1024, .bf16⟩
  | .local _ .vmem, ⟨13, _⟩ => ⟨S12x256x1024, .bf16⟩
  | .local _ .vmem, ⟨14, _⟩ => ⟨S256x256, .bf16⟩
  | .local _ .vmem, ⟨15, _⟩ => ⟨S1024x512, .bf16⟩
  | .local _ .vmem, ⟨16, _⟩ => ⟨S256x512, .f32⟩
  | _, _ => ⟨S2x128x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 12], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v7373 : Index := Scalar.indexCast arg1
  let c0_2173 : Index := 0#32
  let c0_2174 : Index := 0#32
  ![v7373.toNat, 0, 0]
def k0_off2 (i : grid0.Coords) : Fin 3 → Nat :=
  let arg1 : BitVec 32 := BitVec.ofNat 32 (i 1).val
  let v7381 : Index := Scalar.indexCast arg1
  let c0_2178 : Index := 0#32
  let c256_2179 : Index := 256#32
  ![v7381.toNat, 0, 256]
def k0_off3 (i : grid0.Coords) : Fin 3 → Nat :=
  let arg1 : BitVec 32 := BitVec.ofNat 32 (i 1).val
  let v7389 : Index := Scalar.indexCast arg1
  let c0_2183 : Index := 0#32
  let c512_2184 : Index := 512#32
  ![v7389.toNat, 0, 512]
def k0_off4 (i : grid0.Coords) : Fin 3 → Nat :=
  let arg1 : BitVec 32 := BitVec.ofNat 32 (i 1).val
  let v7397 : Index := Scalar.indexCast arg1
  let c0_2188 : Index := 0#32
  let c768_2189 : Index := 768#32
  ![v7397.toNat, 0, 768]
def k0_off5 (i : grid0.Coords) : Fin 3 → Nat :=
  let arg1 : BitVec 32 := BitVec.ofNat 32 (i 1).val
  let v7316 : Index := Scalar.indexCast arg1
  let c0_2131 : Index := 0#32
  let c0_2132 : Index := 0#32
  ![v7316.toNat, 0, 0]
def k0_cond5 (i : grid0.Coords) : BitVec 1 :=
  let arg1 : BitVec 32 := BitVec.ofNat 32 (i 1).val
  let c11_i32 : BitVec 32 := 11#32
  let v7327 : BitVec 1 := Scalar.cmpi .eq arg1 c11_i32
  let v7328 : BitVec 32 := Scalar.extui v7327
  let c0_i32_2139 : BitVec 32 := 0#32
  let v7329 : BitVec 1 := Scalar.cmpi .ne v7328 c0_i32_2139
  v7329

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x128x12288 : Shape := ⟨3, ![2, 128, 12288]⟩
abbrev S12288 : Shape := ⟨1, ![12288]⟩
abbrev S256x2 : Shape := ⟨2, ![256, 2]⟩
abbrev S6144x4096 : Shape := ⟨2, ![6144, 4096]⟩
abbrev S12x4096 : Shape := ⟨2, ![12, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S12x1024 : Shape := ⟨2, ![12, 1024]⟩
abbrev S2x128x12x1024 : Shape := ⟨4, ![2, 128, 12, 1024]⟩
abbrev S1x1x12x1024 : Shape := ⟨4, ![1, 1, 12, 1024]⟩
abbrev S2x128x12x512x2 : Shape := ⟨5, ![2, 128, 12, 512, 2]⟩
abbrev S2x128x12x512x1 : Shape := ⟨5, ![2, 128, 12, 512, 1]⟩
abbrev S2x128x12x512 : Shape := ⟨4, ![2, 128, 12, 512]⟩
abbrev S12x512x4096 : Shape := ⟨3, ![12, 512, 4096]⟩
abbrev S12x1x4096 : Shape := ⟨3, ![12, 1, 4096]⟩
abbrev S12x512x4096x1 : Shape := ⟨4, ![12, 512, 4096, 1]⟩
abbrev S12x512x4096x2 : Shape := ⟨4, ![12, 512, 4096, 2]⟩
abbrev S2x128x4096 : Shape := ⟨3, ![2, 128, 4096]⟩
abbrev S256x4096 : Shape := ⟨2, ![256, 4096]⟩
abbrev S256x12288 : Shape := ⟨2, ![256, 12288]⟩

abbrev nBuf : Space → Nat
  | .hbm => 68
  | .vmem => 0
  | .smem => 0
  | _ => 0

abbrev bufTy : (tb : Table) → Fin (tcTables nBuf tb) → BufTy
  | .hbm, ⟨0, _⟩ => ⟨S2x128x12288, .bf16⟩
  | .hbm, ⟨1, _⟩ => ⟨S12288, .i8⟩
  | .hbm, ⟨2, _⟩ => ⟨S256x2, .i16⟩
  | .hbm, ⟨3, _⟩ => ⟨S6144x4096, .i8⟩
  | .hbm, ⟨4, _⟩ => ⟨S12x4096, .f32⟩
  | .hbm, ⟨5, _⟩ => ⟨S256x2, .bf16⟩
  | .hbm, ⟨6, _⟩ => ⟨S1024, .i32⟩
  | .hbm, ⟨7, _⟩ => ⟨S1024x1, .i32⟩
  | .hbm, ⟨8, _⟩ => ⟨S1024, .i32⟩
  | .hbm, ⟨9, _⟩ => ⟨S1x1024, .i32⟩
  | .hbm, ⟨10, _⟩ => ⟨S1024x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .bf16⟩
  | .hbm, ⟨24, _⟩ => ⟨S12288, .i32⟩
  | .hbm, ⟨25, _⟩ => ⟨S12288, .bf16⟩
  | .hbm, ⟨26, _⟩ => ⟨S12x1024, .bf16⟩
  | .hbm, ⟨27, _⟩ => ⟨S2x128x12x1024, .bf16⟩
  | .hbm, ⟨28, _⟩ => ⟨S1x1x12x1024, .bf16⟩
  | .hbm, ⟨29, _⟩ => ⟨S2x128x12x1024, .bf16⟩
  | .hbm, ⟨30, _⟩ => ⟨S2x128x12x1024, .bf16⟩
  | .hbm, ⟨31, _⟩ => ⟨S2x128x12x1024, .f32⟩
  | .hbm, ⟨32, _⟩ => ⟨S_, .f32⟩
  | .hbm, ⟨33, _⟩ => ⟨S2x128x12x1024, .f32⟩
  | .hbm, ⟨34, _⟩ => ⟨S2x128x12x1024, .f32⟩
  | .hbm, ⟨35, _⟩ => ⟨S2x128x12x1024, .bf16⟩
  | .hbm, ⟨36, _⟩ => ⟨S2x128x12x512x2, .bf16⟩
  | .hbm, ⟨37, _⟩ => ⟨S2x128x12x512x1, .bf16⟩
  | .hbm, ⟨38, _⟩ => ⟨S2x128x12x512, .bf16⟩
  | .hbm, ⟨39, _⟩ => ⟨S2x128x12x512x1, .bf16⟩
  | .hbm, ⟨40, _⟩ => ⟨S2x128x12x512, .bf16⟩
  | .hbm, ⟨41, _⟩ => ⟨S6144x4096, .i32⟩
  | .hbm, ⟨42, _⟩ => ⟨S12x512x4096, .i32⟩
  | .hbm, ⟨43, _⟩ => ⟨S12x4096, .bf16⟩
  | .hbm, ⟨44, _⟩ => ⟨S12x1x4096, .bf16⟩
  | .hbm, ⟨45, _⟩ => ⟨S_, .i32⟩
  | .hbm, ⟨46, _⟩ => ⟨S12x512x4096, .i32⟩
  | .hbm, ⟨47, _⟩ => ⟨S12x512x4096, .i1⟩
  | .hbm, ⟨48, _⟩ => ⟨S_, .i32⟩
  | .hbm, ⟨49, _⟩ => ⟨S12x512x4096, .i32⟩
  | .hbm, ⟨50, _⟩ => ⟨S12x512x4096, .i32⟩
  | .hbm, ⟨51, _⟩ => ⟨S12x512x4096, .i32⟩
  | .hbm, ⟨52, _⟩ => ⟨S12x512x4096x1, .i32⟩
  | .hbm, ⟨53, _⟩ => ⟨S12x512x4096x2, .bf16⟩
  | .hbm, ⟨54, _⟩ => ⟨S12x512x4096x1, .bf16⟩
  | .hbm, ⟨55, _⟩ => ⟨S12x512x4096, .bf16⟩
  | .hbm, ⟨56, _⟩ => ⟨S12x512x4096, .bf16⟩
  | .hbm, ⟨57, _⟩ => ⟨S12x512x4096, .bf16⟩
  | .hbm, ⟨58, _⟩ => ⟨S12x512x4096x1, .bf16⟩
  | .hbm, ⟨59, _⟩ => ⟨S12x512x4096, .bf16⟩
  | .hbm, ⟨60, _⟩ => ⟨S12x512x4096, .bf16⟩
  | .hbm, ⟨61, _⟩ => ⟨S12x512x4096, .bf16⟩
  | .hbm, ⟨62, _⟩ => ⟨S2x128x4096, .f32⟩
  | .hbm, ⟨63, _⟩ => ⟨S2x128x4096, .f32⟩
  | .hbm, ⟨64, _⟩ => ⟨S2x128x4096, .f32⟩
  | .hbm, ⟨65, _⟩ => ⟨S2x128x4096, .bf16⟩
  | .hbm, ⟨66, _⟩ => ⟨S256x4096, .bf16⟩
  | .hbm, ⟨67, _⟩ => ⟨S256x12288, .bf16⟩
  | _, _ => ⟨S2x128x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Proof.Kernel.Run.lean ====
/-
  The kernel body, run once at an arbitrary grid point on arbitrary whole operands (the eleven memrefs it is called with,
  the five inputs and the scratch at named contents). The executor writes what every operand it stores into is left
  holding: `run … |>.1` is that five-tuple (results `y` and `xr`, scratch `xr_s`, `h_s`, `acc_s`), and `.2` says the body
  runs from the operands to it. The guards on the grid point stay undecided: their cases are joined in the contents.
-/
module

public import proofs.«01_k».proof.Proof.Gen.Kernel.Frame
public import proofs.«01_k».proof.Proof.Gen.Kernel.Skeleton

@[expose] public section

set_option maxRecDepth 16384

noncomputable section

namespace Cert.Kernel.Run

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- A memref's buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the five buffers it stores into (beside the decoded weights), and the run to it. -/
noncomputable def run (c : Dev nD) (i : grid0.Coords)
    (M2 : Memref sig .tc .vmem S256x1024 .bf16) (h2 : M2.IsWhole)
    (M3 : Memref sig .tc .vmem S1x1x1024 .bf16) (h3 : M3.IsWhole)
    (M4 : Memref sig .tc .vmem S2x8x128 .i32) (h4 : M4.IsWhole)
    (M5 : Memref sig .tc .vmem S512x512 .i8) (h5 : M5.IsWhole)
    (M6 : Memref sig .tc .vmem S1x1x512 .bf16) (h6 : M6.IsWhole)
    (M7 : Memref sig .tc .vmem S256x512 .bf16) (h7 : M7.IsWhole)
    (M8 : Memref sig .tc .vmem S256x1024 .bf16) (h8 : M8.IsWhole)
    (M9 : Memref sig .tc .vmem S12x256x1024 .bf16) (h9 : M9.IsWhole)
    (M10 : Memref sig .tc .vmem S256x256 .bf16) (h10 : M10.IsWhole)
    (M11 : Memref sig .tc .vmem S1024x512 .bf16) (h11 : M11.IsWhole)
    (M12 : Memref sig .tc .vmem S256x512 .f32) (h12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f12 : Bf (F := F) c M12) :
    { W : Bf (F := F) c M7 × Bf (F := F) c M8 × Bf (F := F) c M9 × Bf (F := F) c M10 × Bf (F := F) c M12 //
      ∀ (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6
                ∗ pt c M7 W.1 ∗ pt c M8 W.2.1 ∗ pt c M9 W.2.2.1 ∗ pt c M10 W.2.2.2.1 ∗ (∃ f, pt c M11 f) ∗ pt c M12 W.2.2.2.2) -∗ Q ⟨⟩))
        ⊢ wp frame (wpE (defs₀ (F := F)) Variants.none c none) E
            (cc0_higgs i M2 h2 M3 h3 M4 h4 M5 h5 M6 h6 M7 h7 M8 h8 M9 h9 M10 h10 M11 h11 M12 h12) Q } := by
  refine ⟨⟨?_, ?_, ?_, ?_, ?_⟩, fun f11 E Q => ?run⟩
  case run =>
    iintro ⟨H2, H3, H4, H5, H6, H7, H8, H9, H10, H11, H12, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexact H12

end Cert.Kernel.Run

end
-- ==== Proof.Kernel.Owns.lean ====
/-
  The body's run (Run.lean) read through the memrefs: from the eleven operands owned at contents `X2 … X12`, the body runs to
  the inputs as they were and the others at what the run's five-tuple reads.
-/
module

public import proofs.«01_k».proof.Proof.Kernel.Run
public import Idealize.ShloMosaic.Lib.Pipeline.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole memref owned at `X` is its buffer held at the contents that read `X`. -/
theorem owns_unread (c : Dev nD) {sp : Space} {S : Shape} {e : EltTy} (M : Memref sig .tc sp S e) (h : M.IsWhole)
    (X : S.Idx → Elt F e) : (owns (c : Thread nD τ) M fullShare X : sProp 𝕄) = pt c M (h.unread X) := by
  obtain ⟨b, hsp, hsh, he, h'⟩ := id h
  subst hsp hsh he
  cases h'
  show (owns (c : Thread nD τ) (Memref.whole b) fullShare X : sProp 𝕄) = _
  rw [owns_whole]
  have hX : h.unread X = X := h.read_unread X
  rw [hX]

/-- A whole memref's buffer held at `f` is the memref owned at what it reads of `f`. -/
theorem pt_eq_owns (c : Dev nD) {sp : Space} {S : Shape} {e : EltTy} (M : Memref sig .tc sp S e) (h : M.IsWhole)
    (f : Bf (F := F) c M) : (pt c M f : sProp 𝕄) = owns (c : Thread nD τ) M fullShare (M.view.read (Elt F) f) := by
  rw [owns_unread c M h, h.unread_read]

/-- The body's triple over contents: `Y7 … Y12` are what the run's five buffers read. -/
theorem body_owns (c : Dev nD) (i : grid0.Coords)
    (M2 : Memref sig .tc .vmem S256x1024 .bf16) (h2 : M2.IsWhole)
    (M3 : Memref sig .tc .vmem S1x1x1024 .bf16) (h3 : M3.IsWhole)
    (M4 : Memref sig .tc .vmem S2x8x128 .i32) (h4 : M4.IsWhole)
    (M5 : Memref sig .tc .vmem S512x512 .i8) (h5 : M5.IsWhole)
    (M6 : Memref sig .tc .vmem S1x1x512 .bf16) (h6 : M6.IsWhole)
    (M7 : Memref sig .tc .vmem S256x512 .bf16) (h7 : M7.IsWhole)
    (M8 : Memref sig .tc .vmem S256x1024 .bf16) (h8 : M8.IsWhole)
    (M9 : Memref sig .tc .vmem S12x256x1024 .bf16) (h9 : M9.IsWhole)
    (M10 : Memref sig .tc .vmem S256x256 .bf16) (h10 : M10.IsWhole)
    (M11 : Memref sig .tc .vmem S1024x512 .bf16) (h11 : M11.IsWhole)
    (M12 : Memref sig .tc .vmem S256x512 .f32) (h12 : M12.IsWhole)
    (X2 : S256x1024.Idx → Elt F .bf16) (X3 : S1x1x1024.Idx → Elt F .bf16) (X4 : S2x8x128.Idx → Elt F .i32)
    (X5 : S512x512.Idx → Elt F .i8) (X6 : S1x1x512.Idx → Elt F .bf16) (X7 : S256x512.Idx → Elt F .bf16)
    (X8 : S256x1024.Idx → Elt F .bf16) (X9 : S12x256x1024.Idx → Elt F .bf16) (X10 : S256x256.Idx → Elt F .bf16)
    (X12 : S256x512.Idx → Elt F .f32)
    (Y7 : S256x512.Idx → Elt F .bf16)
    (Y8 : S256x1024.Idx → Elt F .bf16) (Y9 : S12x256x1024.Idx → Elt F .bf16) (Y10 : S256x256.Idx → Elt F .bf16)
    (Y12 : S256x512.Idx → Elt F .f32)
    (e7 : M7.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.1 = Y7)
    (e8 : M8.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.1 = Y8)
    (e9 : M9.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.1 = Y9)
    (e10 : M10.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.2.1 = Y10)
    (e12 : M12.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.2.2 = Y12)
    (E : Set ℕ) (Q : PUnit → sProp 𝕄) :
    iprop(owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10
        ∗ (∃ X, owns (c : Thread nD τ) M11 fullShare X) ∗ owns (c : Thread nD τ) M12 fullShare X12
        ∗ (iprop(owns (c : Thread nD τ) M2 fullShare X2 ∗ owns (c : Thread nD τ) M3 fullShare X3 ∗ owns (c : Thread nD τ) M4 fullShare X4
            ∗ owns (c : Thread nD τ) M5 fullShare X5 ∗ owns (c : Thread nD τ) M6 fullShare X6 ∗ owns (c : Thread nD τ) M7 fullShare Y7
            ∗ owns (c : Thread nD τ) M8 fullShare Y8 ∗ owns (c : Thread nD τ) M9 fullShare Y9 ∗ owns (c : Thread nD τ) M10 fullShare Y10
            ∗ (∃ X, owns (c : Thread nD τ) M11 fullShare X) ∗ owns (c : Thread nD τ) M12 fullShare Y12) -∗ Q ⟨⟩))
      ⊢ wp frame (wpE (defs₀ (F := F)) Variants.none c none) E
          (cc0_higgs i M2 h2 M3 h3 M4 h4 M5 h5 M6 h6 M7 h7 M8 h8 M9 h9 M10 h10 M11 h11 M12 h12) Q := by
  generalize run c i M2 h2 M3 h3 M4 h4 M5 h5 M6 h6 M7 h7 M8 h8 M9 h9 M10 h10 M11 h11 M12 h12 (h2.unread X2) (h3.unread X3)
    (h4.unread X4) (h5.unread X5) (h6.unread X6) (h7.unread X7) (h8.unread X8) (h9.unread X9) (h10.unread X10) (h12.unread X12) = r
    at e7 e8 e9 e10 e12
  subst e7 e8 e9 e10 e12
  have h := fun f11 => r.2 f11 E Q
  simp only [pt_eq_owns c M2 h2, pt_eq_owns c M3 h3, pt_eq_owns c M4 h4, pt_eq_owns c M5 h5, pt_eq_owns c M6 h6, pt_eq_owns c M7 h7,
    pt_eq_owns c M8 h8, pt_eq_owns c M9 h9, pt_eq_owns c M10 h10, pt_eq_owns c M12 h12, Memref.IsWhole.read_unread] at h
  rw [h11.exists_owns_eq]
  iintro ⟨H2, H3, H4, H5, H6, H7, H8, H9, H10, ⟨%f11, H11⟩, H12, Hk⟩
  iapply h f11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hk

end Cert.Kernel.Run

end
-- ==== Proof.Kernel.Frame.lean ====
/-
  The frame of the kernel as compiled: at any value instance, every run terminates, leaves the five arguments as they were
  and every semaphore counter at zero. The two result windows are forgotten and the scratch is held at some contents, so
  only the existence of the body's run (Run.lean, Owns.lean) is used.
-/
module

public import proofs.«01_k».proof.Proof.Kernel.Owns
public import Idealize.ShloMosaic.Lib.Pipeline.Frame

@[expose] public section

set_option maxRecDepth 16384

noncomputable section

namespace Cert.Kernel.Hand

open Cert.Kernel Cert.Kernel.Gen Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The windows the frame forgets: the two results. -/
def forgets0 : Fin 7 → Bool := fun
  | 0 => false | 1 => false | 2 => false | 3 => false | 4 => false | 5 => true | 6 => true

/-- The proof data on core `c`: the arrays as the region finds them; an input window keeps its block, a result window is
    left unnamed (it is forgotten); the invariant holds the scratch and the generator register at some contents. -/
def dats (p : Fin 1) (c : Dev nD) : Dat τ (Elt F) Unit ℕ (UR sig nD τ) ℕ (cfgs p) c where
  A w := V m c (Pipeline.arrRef spec0 w)
  after := fun
    | 0, t => iblk m c 0 t
    | 1, t => iblk m c 1 t
    | 2, t => iblk m c 2 t
    | 3, t => iblk m c 3 t
    | 4, t => iblk m c 4 t
    | 5, _ => fun _ => Classical.arbitrary _
    | 6, _ => fun _ => Classical.arbitrary _
  Φ _ := Pipeline.ΦA spec0 c
  q _ := fullShare
  recorded _ _ := True
  owed _ := 0

theorem A_eq (c : Dev nD) (w : Fin cfg0.W) : (dats m 0 c).A w = V m c (Pipeline.arrRef spec0 w) := by dsimp only [dats]

/-- What the body is handed at point `t`: the input windows at their blocks, the result windows and the scratch at anything. -/
def bodyPre (c : Dev nD) (t : Fin cfg0.N) : sProp 𝕄 :=
  iprop((dats m 0 c).Φ t.castSucc ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ X, owns (c : Thread nD τ) (st0_5 t) fullShare X)
    ∗ (∃ X, owns (c : Thread nD τ) (st0_6 t) fullShare X))

/-- The invariant, conjunct by conjunct. -/
theorem ΦA_eq (c : Dev nD) :
    (Pipeline.ΦA spec0 c : sProp 𝕄)
      = iprop(((∃ X, owns (c : Thread nD τ) (Memref.whole cc0_scratch0) fullShare X)
          ∗ (∃ X, owns (c : Thread nD τ) (Memref.whole cc0_scratch1) fullShare X)
          ∗ (∃ X, owns (c : Thread nD τ) (Memref.whole cc0_scratch2) fullShare X)
          ∗ (∃ X, owns (c : Thread nD τ) (Memref.whole cc0_scratch3) fullShare X)) ∗ (∃ r, prngReg c r)) := by
  unfold Pipeline.ΦA
  rw [scopedRest0_eq]; simp only [owns_whole]; try rfl

/-- The body at a point: from the invariant and the windows, back to the invariant and the windows. -/
theorem sound_body (c : Dev nD) (t : Fin cfg0.N) :
    bodyPre m c t ⊢ wp frame (wpE (defs₀ (F := F)) Variants.none c none) Set.univ (bodyAt0 t) (fun _ => bodyPre m c t) := by
  unfold bodyPre bodyAt0
  rw [show (dats m 0 c).Φ t.castSucc = Pipeline.ΦA spec0 c from rfl, ΦA_eq]
  iintro ⟨⟨⟨⟨%X9, H9⟩, ⟨%X10, H10⟩, H11, ⟨%X12, H12⟩⟩, Hg⟩, HO, H2, H3, H4, H5, H6, ⟨%X7, H7⟩, ⟨%X8, H8⟩⟩
  iapply (body_owns c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) X7 X8 X9 X10 X12 _ _ _ _ _ rfl rfl rfl rfl rfl Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  isplitl [H9 H10 H11 H12 Hg]
  · isplitl [H9 H10 H11 H12]
    · isplitl [H9]; · iexists _; iexact H9
      isplitl [H10]; · iexists _; iexact H10
      isplitl [H11]; · iexact H11
      iexists _; iexact H12
    iexact Hg
  isplitl [HO]; · iexact HO
  isplitl [H2]; · iexact H2
  isplitl [H3]; · iexact H3
  isplitl [H4]; · iexact H4
  isplitl [H5]; · iexact H5
  isplitl [H6]; · iexact H6
  isplitl [H7]; · iexists _; iexact H7
  iexists _; iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the results forgotten. -/
theorem body_obligation (c : Dev nD) :
    BodyObligation (dats (F := F) m 0 c) (defs₀ (F := F)) Variants.none () Set.univ forgets0 := fun t => by
  rw [bigSep_W0, bigSep_W0, defs₀_row]
  refine triple_restated (sound_body m c t) rfl ?_ fun _ => ?_
  · unfold bodyPre
    dsimp only [forgets0]
    iintro ⟨HP, HO, ⟨%d0, H0⟩, ⟨%d1, H1⟩, ⟨%d2, H2⟩, ⟨%d3, H3⟩, ⟨%d4, H4⟩, H5, H6⟩
    isplitl [HP]; · iexact HP
    isplitl [HO]; · iexact HO
    rw [before0_0_of m (dats m 0 c) (A_eq m c 0) (fun _ => rfl) t d0, before0_1_of m (dats m 0 c) (A_eq m c 1) (fun _ => rfl) t d1,
      before0_2_of m (dats m 0 c) (A_eq m c 2) (fun _ => rfl) t d2, before0_3_of m (dats m 0 c) (A_eq m c 3) (fun _ => rfl) t d3,
      before0_4_of m (dats m 0 c) (A_eq m c 4) (fun _ => rfl) t d4]
    isplitl [H0]; · iexact H0
    isplitl [H1]; · iexact H1
    isplitl [H2]; · iexact H2
    isplitl [H3]; · iexact H3
    isplitl [H4]; · iexact H4
    isplitl [H5]; · iexact H5
    iexact H6
  · exact .rfl

set_option backward.isDefEq.respectTransparency.types false in
/-- From any memory with zero counters every run of @main terminates, every array no window writes at its entry contents
    and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}

/-- After the run the five arguments hold what they held at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans (V_main_arg3 m c),
      ((h c).2 main_arg4 (Pipeline.mem_restRefs_of main_arg4 (by decide) (by decide))).trans (V_main_arg4 m c)⟩

end Cert.Kernel.Hand

end
-- ==== Proof.KernelIdeal.Run.lean ====
/-
  The kernel body, run once at an arbitrary grid point on arbitrary whole operands (the eleven memrefs it is called with,
  the five inputs and the scratch at named contents). The executor writes what every operand it stores into is left
  holding: `run … |>.1` is that five-tuple (results `y` and `xr`, scratch `xr_s`, `h_s`, `acc_s`), and `.2` says the body
  runs from the operands to it. The guards on the grid point stay undecided: their cases are joined in the contents.
-/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- A memref's buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the five buffers it stores into (beside the decoded weights), and the run to it. -/
noncomputable def run (c : Dev nD) (i : grid0.Coords)
    (M2 : Memref sig .tc .vmem S256x1024 .bf16) (h2 : M2.IsWhole)
    (M3 : Memref sig .tc .vmem S1x1x1024 .bf16) (h3 : M3.IsWhole)
    (M4 : Memref sig .tc .vmem S2x8x128 .i32) (h4 : M4.IsWhole)
    (M5 : Memref sig .tc .vmem S512x512 .i8) (h5 : M5.IsWhole)
    (M6 : Memref sig .tc .vmem S1x1x512 .bf16) (h6 : M6.IsWhole)
    (M7 : Memref sig .tc .vmem S256x512 .bf16) (h7 : M7.IsWhole)
    (M8 : Memref sig .tc .vmem S256x1024 .bf16) (h8 : M8.IsWhole)
    (M9 : Memref sig .tc .vmem S12x256x1024 .bf16) (h9 : M9.IsWhole)
    (M10 : Memref sig .tc .vmem S256x256 .bf16) (h10 : M10.IsWhole)
    (M11 : Memref sig .tc .vmem S1024x512 .bf16) (h11 : M11.IsWhole)
    (M12 : Memref sig .tc .vmem S256x512 .f32) (h12 : M12.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f12 : Bf (F := F) c M12) :
    { W : Bf (F := F) c M7 × Bf (F := F) c M8 × Bf (F := F) c M9 × Bf (F := F) c M10 × Bf (F := F) c M12 //
      ∀ (f11 : Bf (F := F) c M11) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(pt c M2 f2 ∗ pt c M3 f3 ∗ pt c M4 f4 ∗ pt c M5 f5 ∗ pt c M6 f6
                ∗ pt c M7 W.1 ∗ pt c M8 W.2.1 ∗ pt c M9 W.2.2.1 ∗ pt c M10 W.2.2.2.1 ∗ (∃ f, pt c M11 f) ∗ pt c M12 W.2.2.2.2) -∗ Q ⟨⟩))
        ⊢ wp frame (wpE (defs₀ (F := F)) Variants.none c none) E
            (cc0_higgs i M2 h2 M3 h3 M4 h4 M5 h5 M6 h6 M7 h7 M8 h8 M9 h9 M10 h10 M11 h11 M12 h12) Q } := by
  refine ⟨⟨?_, ?_, ?_, ?_, ?_⟩, fun f11 E Q => ?run⟩
  case run =>
    iintro ⟨H2, H3, H4, H5, H6, H7, H8, H9, H10, H11, H12, Hk⟩
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexact H12

end Cert.KernelIdeal.Run

end
-- ==== Proof.KernelIdeal.Tiles.lean ====
/-
  The decoded weights, tile by tile. The body stores the scratch `w_s` (1024 × 512) as 256 tiles of 16 × 128, each decoded
  from 8 × 128 codes by the same chain of operations (`tile`): tile `n` is at rows `16·(n % 64)`, columns `128·(n / 64)`.
  The run's list of stores is that family (`pieces_eq`).
-/
module

public import proofs.«01_k».proof.Proof.KernelIdeal.Run
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-- One tile's decode: the code's low seven bits index both halves of the table, its top bit chooses the half; the chosen
    word's two 16-bit halves are two rows of weights, scaled. -/
def tile (lo hi : IVec S8x128 32) (sc : FVec F S1x128 .bf16) (cd : IVec S8x128 32) : FVec F S16x128 .bf16 :=
  have k : IVec S8x128 32 := andi cd (broadcast S8x128 127#32)
  have ix : IVec S8x128 32 := shapeCast S8x128 (shapeCast S8x128x1 (select (cmpi .slt k (broadcast S8x128 0#32)) (addi k (broadcast S8x128 128#32)) k)
    shapeCasts_S8x128_S8x128x1) shapeCasts_S8x128x1_S8x128
  have w : IVec S8x128 32 := select (cmpi .sge cd (broadcast S8x128 128#32)) (dynamicGather 1 hi ix) (dynamicGather 1 lo ix)
  shapeCast S16x128 (mulf (bitcastToFloat .bf16 (bitcast S16x128 16 w bitcasts_S8x128_w32_S16x128_w16))
    (broadcastTo S16x128 sc broadcasts_S1x128_S16x128)) shapeCasts_S16x128_S16x128

theorem inb_out (n : ℕ) (h : n < 256) : ∀ a, (![16 * (n % 64), 128 * (n / 64)] : Fin 2 → ℕ) a + S16x128.size a ≤ S1024x512.size a := by
  intro a; fin_cases a
  · show 16 * (n % 64) + 16 ≤ 1024; omega
  · show 128 * (n / 64) + 128 ≤ 512; omega
theorem inb_codes (n : ℕ) (h : n < 256) : ∀ a, (![32 * (n % 64 / 4), 128 * (n / 64)] : Fin 2 → ℕ) a + S32x128.size a ≤ S512x512.size a := by
  intro a; fin_cases a
  · show 32 * (n % 64 / 4) + 32 ≤ 512; omega
  · show 128 * (n / 64) + 128 ≤ 512; omega
theorem inb_sc (n : ℕ) (h : n < 256) : ∀ a, (![0, 0, 128 * (n / 64)] : Fin 3 → ℕ) a + S1x1x128.size a ≤ S1x1x512.size a := by
  intro a; fin_cases a
  · show 0 + 1 ≤ 1; omega
  · show 0 + 1 ≤ 1; omega
  · show 128 * (n / 64) + 128 ≤ 512; omega
theorem slices_q (n : ℕ) : S32x128.Slices ![8 * (n % 4), 0] S8x128 := by
  have h : n % 4 < 4 := Nat.mod_lt _ (by decide)
  have : ∀ q : Fin 4, S32x128.Slices ![8 * q.val, 0] S8x128 := by decide
  exact this ⟨n % 4, h⟩

variable (c : Dev nD) (M4 : Memref sig .tc .vmem S2x8x128 .i32) (M5 : Memref sig .tc .vmem S512x512 .i8) (M6 : Memref sig .tc .vmem S1x1x512 .bf16)
  (f4 : Bf (F := F) c M4) (f5 : Bf (F := F) c M5) (f6 : Bf (F := F) c M6)

/-- Tile `n` of the weights, from the operands' buffers. -/
def tileAt (n : ℕ) (h : n < 256) : FVec F S16x128 .bf16 :=
  tile (shapeCast S8x128 (View.readAt (Elt F) M4.view (Rect.unit (s := S2x8x128) ![0, 0, 0] S1x8x128.size inb_S2x8x128_S1x8x128_0_0_0).toLoadRect f4) shapeCasts_S1x8x128_S8x128)
    (shapeCast S8x128 (View.readAt (Elt F) M4.view (Rect.unit (s := S2x8x128) ![1, 0, 0] S1x8x128.size inb_S2x8x128_S1x8x128_1_0_0).toLoadRect f4) shapeCasts_S1x8x128_S8x128)
    (shapeCast S1x128 (View.readAt (Elt F) M6.view (Rect.unit (s := S1x1x512) ![0, 0, 128 * (n / 64)] S1x1x128.size (inb_sc n h)).toLoadRect f6) shapeCasts_S1x1x128_S1x128)
    (extractStridedSlice S8x128 ![8 * (n % 4), 0]
      (extui 32 (View.readAt (Elt F) M5.view (Rect.unit (s := S512x512) ![32 * (n % 64 / 4), 128 * (n / 64)] S32x128.size (inb_codes n h)).toLoadRect f5) natLt_8_32 : IVec S32x128 32)
      (slices_q n))

/-- The first `n` tiles' stores, last first. -/
def pieces : (n : ℕ) → n ≤ 256 → List (View.Piece (Elt F) S1024x512 .bf16)
  | 0, _ => []
  | n + 1, h => ⟨Rect.unit (s := S1024x512) ![16 * (n % 64), 128 * (n / 64)] S16x128.size (inb_out n h), tileAt c M4 M5 M6 f4 f5 f6 n h⟩
      :: pieces n (Nat.le_of_succ_le h)

theorem pieces_eq : run.sl.H11_256 c M4 M5 M6 f4 f5 f6 = pieces c M4 M5 M6 f4 f5 f6 256 (le_refl _) := by rfl

end Cert.KernelIdeal.Run

end
-- ==== Proof.KernelIdeal.Weights.lean ====
/-
  The decoded weights read at a point: row `2j + e`, column `n` of the scratch `w_s` is half `e` of the table's word for the
  code at `(j, n)`, as a bf16 number, times the column's scale.
-/
module

public import proofs.«01_k».proof.Proof.KernelIdeal.Tiles
public import Idealize.ShloMosaic.Lib.Pointwise
public import Idealize.ShloMosaic.Lib.BitcastPair
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-- The table's word for code `b` in row `j`'s sublane: lane `b % 128` of half `b / 128`. -/
def word (X4 : S2x8x128.Idx → BitVec 32) (b : BitVec 8) (j : ℕ) : BitVec 32 :=
  X4 (ix3 (n0 := 2) (n1 := 8) (n2 := 128) ⟨b.toNat / 128, by have := b.isLt; omega⟩ ⟨j % 8, Nat.mod_lt _ (by decide)⟩ ⟨b.toNat % 128, Nat.mod_lt _ (by decide)⟩)

/-- The decoded weights of one block. -/
def wdec (X4 : S2x8x128.Idx → BitVec 32) (X5 : S512x512.Idx → BitVec 8) (X6 : S1x1x512.Idx → EReal) : S1024x512.Idx → EReal := fun y =>
  Ideal.ofBits .bf16 ((word X4 (X5 (ix2 (n0 := 512) (n1 := 512) ⟨(y 0).val / 2, by have := (y 0).isLt; change (y 0).val < 1024 at this; omega⟩ (y 1))) ((y 0).val / 2)).extractLsb' (16 * ((y 0).val % 2)) 16)
    * X6 (ix3 (n0 := 1) (n1 := 1) (n2 := 512) 0 0 (y 1))

theorem half_at (w : IVec S8x128 32) (u : Fin 16) (v : Fin 128) :
    bitcast S16x128 16 w bitcasts_S8x128_w32_S16x128_w16 (ix2 (n0 := 16) (n1 := 128) u v)
      = (w (ix2 (n0 := 8) (n1 := 128) ⟨u.val / 2, by omega⟩ v)).extractLsb' (16 * (u.val % 2)) 16 := by
  rw [bitcast_32_16]
  congr 2
  funext a; apply Fin.ext
  match a with
  | ⟨0, _⟩ => exact Shape.Bitcasts.srcIdx_row _ _ _ _ _ rfl
  | ⟨1, _⟩ => exact Shape.Bitcasts.srcIdx_other _ _ _ _ ⟨1, by decide⟩ (show ¬ (1 + 2 = 2) by decide)

theorem sel_hi : ∀ b : BitVec 8, IntOp.cmpi .sge (b.setWidth 32) 128#32 = if 128 ≤ b.toNat then 1#1 else 0#1 := by decide +kernel

theorem sel_lane : ∀ b : BitVec 8, (Scalar.select (IntOp.cmpi .slt (IntOp.andi (b.setWidth 32) 127#32) 0#32)
    (IntOp.addi (IntOp.andi (b.setWidth 32) 127#32) 128#32) (IntOp.andi (b.setWidth 32) 127#32)).toNat % 128 = b.toNat % 128 := by decide +kernel

/-- One tile's decode at a point. -/
theorem tile_apply (lo hi : IVec S8x128 32) (sc : FVec Ideal S1x128 .bf16) (cd : IVec S8x128 32) (u : Fin 16) (v : Fin 128)
    (b : BitVec 8) (hb : cd (ix2 (n0 := 8) (n1 := 128) ⟨u.val / 2, by omega⟩ v) = b.setWidth 32) :
    tile lo hi sc cd (ix2 (n0 := 16) (n1 := 128) u v)
      = Ideal.ofBits .bf16 ((if 128 ≤ b.toNat then hi (ix2 (n0 := 8) (n1 := 128) ⟨u.val / 2, by omega⟩ ⟨b.toNat % 128, Nat.mod_lt _ (by decide)⟩)
            else lo (ix2 (n0 := 8) (n1 := 128) ⟨u.val / 2, by omega⟩ ⟨b.toNat % 128, Nat.mod_lt _ (by decide)⟩)).extractLsb' (16 * (u.val % 2)) 16)
          * sc (ix2 (n0 := 1) (n1 := 128) 0 v) := by
  unfold tile
  pointwise [half_at]
  simp only [hb, sel_lane, sel_hi]
  by_cases h : 128 ≤ b.toNat <;> simp [h, Scalar.select]

variable (c : Dev nD) (M4 : Memref sig .tc .vmem S2x8x128 .i32) (M5 : Memref sig .tc .vmem S512x512 .i8) (M6 : Memref sig .tc .vmem S1x1x512 .bf16)
  (h4 : M4.IsWhole) (h5 : M5.IsWhole) (h6 : M6.IsWhole)
  (X4 : S2x8x128.Idx → BitVec 32) (X5 : S512x512.Idx → BitVec 8) (X6 : S1x1x512.Idx → EReal)

/-- Tile `n` is the weights at its rectangle. -/
theorem tileAt_apply (n : ℕ) (h : n < 256) (x : S16x128.Idx) :
    tileAt (F := Ideal) c M4 M5 M6 (h4.unread X4) (h5.unread X5) (h6.unread X6) n h x
      = wdec X4 X5 X6 ((Rect.unit (s := S1024x512) ![16 * (n % 64), 128 * (n / 64)] S16x128.size (inb_out n h)).emb x) := by
  idx_vars x
  rename Fin 16 => u; rename Fin 128 => v
  unfold tileAt
  rw [tile_apply _ _ _ _ u v (X5 (ix2 (n0 := 512) (n1 := 512) ⟨8 * (n % 64) + u.val / 2, by omega⟩ ⟨128 * (n / 64) + v.val, by omega⟩))]
  · pointwise [Memref.IsWhole.readAt_unread]
    have he : (Rect.unit (s := S1024x512) ![16 * (n % 64), 128 * (n / 64)] ![16, 128] (inb_out n h)).emb (ix2 (n0 := 16) (n1 := 128) u v)
        = ix2 (n0 := 1024) (n1 := 512) ⟨16 * (n % 64) + u.val, by omega⟩ ⟨128 * (n / 64) + v.val, by omega⟩ := by
      funext a; apply Fin.ext
      match a with
      | ⟨0, _⟩ => show 16 * (n % 64) + 1 * u.val = _; rw [Nat.one_mul]; rfl
      | ⟨1, _⟩ => show 128 * (n / 64) + 1 * v.val = _; rw [Nat.one_mul]; rfl
    rw [he]
    have e1 : (16 * (n % 64) + u.val) / 2 = 8 * (n % 64) + u.val / 2 := by omega
    have e2 : (8 * (n % 64) + u.val / 2) % 8 = u.val / 2 := by omega
    have e3 : (16 * (n % 64) + u.val) % 2 = u.val % 2 := by omega
    unfold wdec word
    simp only [ix2_0, ix2_1, e1, e2, e3]
    have key : ∀ b : BitVec 8, ∀ q : Fin 8, (if 128 ≤ b.toNat then X4 (ix3 (n0 := 2) (n1 := 8) (n2 := 128) 1 q ⟨b.toNat % 128, Nat.mod_lt _ (by decide)⟩)
        else X4 (ix3 (n0 := 2) (n1 := 8) (n2 := 128) 0 q ⟨b.toNat % 128, Nat.mod_lt _ (by decide)⟩))
        = X4 (ix3 (n0 := 2) (n1 := 8) (n2 := 128) ⟨b.toNat / 128, by have := b.isLt; omega⟩ q ⟨b.toNat % 128, Nat.mod_lt _ (by decide)⟩) := by
      intro b q
      have hb := b.isLt
      by_cases hc : 128 ≤ b.toNat
      · have : b.toNat / 128 = 1 := by omega
        simp only [hc, if_true, this]; rfl
      · have : b.toNat / 128 = 0 := by omega
        simp only [hc, if_false, this]; rfl
    rw [key]
  · pointwise [Memref.IsWhole.readAt_unread]
    congr 3
    exact Fin.ext (show 32 * (n % 64 / 4) + (8 * (n % 4) + u.val / 2) = 8 * (n % 64) + u.val / 2 by omega)

/-- Every piece of the list is the weights at its rectangle. -/
theorem pieces_apply : ∀ (n : ℕ) (h : n ≤ 256), ∀ p ∈ pieces (F := Ideal) c M4 M5 M6 (h4.unread X4) (h5.unread X5) (h6.unread X6) n h,
    ∀ x, p.2 x = wdec X4 X5 X6 (p.1.emb x)
  | 0, _, p, hp, _ => absurd hp List.not_mem_nil
  | n + 1, h, p, hp, x => by
    rcases List.mem_cons.mp hp with rfl | hp
    · exact tileAt_apply c M4 M5 M6 h4 h5 h6 X4 X5 X6 n h x
    · exact pieces_apply n (Nat.le_of_succ_le h) p hp x

theorem pieces_mem (k : ℕ) (hk : k < 256) : ∀ (n : ℕ) (h : n ≤ 256), k < n →
    ∃ p ∈ pieces (F := Ideal) c M4 M5 M6 (h4.unread X4) (h5.unread X5) (h6.unread X6) n h,
      p.1 = Rect.unit (s := S1024x512) ![16 * (k % 64), 128 * (k / 64)] S16x128.size (inb_out k hk)
  | 0, _, hkn => absurd hkn (Nat.not_lt_zero _)
  | n + 1, h, hkn => by
    by_cases e : k = n
    · subst e; exact ⟨_, List.mem_cons_self, rfl⟩
    · obtain ⟨p, hp, hr⟩ := pieces_mem k hk n (Nat.le_of_succ_le h) (by omega)
      exact ⟨p, List.mem_cons_of_mem _ hp, hr⟩

/-- The tiles cover the scratch. -/
theorem pieces_cover (y : S1024x512.Idx) :
    ∃ p ∈ pieces (F := Ideal) c M4 M5 M6 (h4.unread X4) (h5.unread X5) (h6.unread X6) 256 (le_refl _), y ∈ p.1.set := by
  have h0 : (y 0).val < 1024 := (y 0).isLt
  have h1 : (y 1).val < 512 := (y 1).isLt
  obtain ⟨p, hp, hr⟩ := pieces_mem c M4 M5 M6 h4 h5 h6 X4 X5 X6 (64 * ((y 1).val / 128) + (y 0).val / 16) (by omega) 256 (le_refl _) (by omega)
  refine ⟨p, hp, ?_⟩
  rw [hr, Rect.mem_set_unit]
  intro a
  fin_cases a
  · exact ⟨show 16 * ((64 * ((y 1).val / 128) + (y 0).val / 16) % 64) ≤ (y 0).val by omega,
      show (y 0).val < 16 * ((64 * ((y 1).val / 128) + (y 0).val / 16) % 64) + 16 by omega⟩
  · exact ⟨show 128 * ((64 * ((y 1).val / 128) + (y 0).val / 16) / 64) ≤ (y 1).val by omega,
      show (y 1).val < 128 * ((64 * ((y 1).val / 128) + (y 0).val / 16) / 64) + 128 by omega⟩

variable (M11 : Memref sig .tc .vmem S1024x512 .bf16)

/-- What the body loads of the scratch after its 256 stores is the decoded weights. -/
theorem v7319_eq : run.sl.v7319 (F := Ideal) c M4 M5 M6 M11 (h4.unread X4) (h5.unread X5) (h6.unread X6) = wdec X4 X5 X6 := by
  unfold run.sl.v7319
  rw [pieces_eq, View.readCov_eq_canon']
  funext j
  rw [View.canon_apply_of_pieces (wdec X4 X5 X6) _ (pieces_apply c M4 M5 M6 h4 h5 h6 X4 X5 X6 256 (le_refl _)) _ (pieces_cover c M4 M5 M6 h4 h5 h6 X4 X5 X6 _)]
  congr 1
  idx_vars j
  funext a; apply Fin.ext
  match a with
  | ⟨0, _⟩ => exact (Nat.zero_add _).trans (Nat.one_mul _)
  | ⟨1, _⟩ => exact (Nat.zero_add _).trans (Nat.one_mul _)

end Cert.KernelIdeal.Run

end
-- ==== Proof.KernelIdeal.Rotate.lean ====
/-
  One group's rotation read at a point: the four 256-column chunks, signed, times the 256 × 256 Hadamard matrix, combined by
  the four sums and differences, times 1/32 — and the 256 × 256 Hadamard matrix itself.
-/
module

public import proofs.«01_k».proof.Proof.KernelIdeal.Weights

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-- Chunk `a` of a group's 1024 columns, signed, times the matrix `H`: one entry. -/
def tcol (X2 : S256x1024.Idx → EReal) (X3 : S1x1x1024.Idx → EReal) (H : S256x256.Idx → EReal) (a : Fin 4) (u v : Fin 256) : EReal :=
  ∑ k : Fin 256, (X2 (ix2 (n0 := 256) (n1 := 1024) u ⟨256 * a.val + k.val, by omega⟩)
      * X3 (ix3 (n0 := 1) (n1 := 1) (n2 := 1024) 0 0 ⟨256 * a.val + k.val, by omega⟩)) * H (ix2 (n0 := 256) (n1 := 256) k v)

/-- The four-point butterfly's output `b`. -/
def bfly (b : ℕ) (t : Fin 4 → EReal) : EReal :=
  match b with
  | 0 => (t 0 + t 1) + (t 2 + t 3)
  | 1 => (t 0 - t 1) + (t 2 - t 3)
  | 2 => (t 0 + t 1) - (t 2 + t 3)
  | _ => (t 0 - t 1) - (t 2 - t 3)

/-- A group's rotated rows. -/
def rotBlk (X2 : S256x1024.Idx → EReal) (X3 : S1x1x1024.Idx → EReal) (H : S256x256.Idx → EReal) : S256x1024.Idx → EReal := fun y =>
  bfly ((y 1).val / 256) (fun a => tcol X2 X3 H a (y 0) ⟨(y 1).val % 256, Nat.mod_lt _ (by decide)⟩) * Ideal.ofBits .f32 0x3D000000#32

variable (c : Dev nD) (M2 : Memref sig .tc .vmem S256x1024 .bf16) (M3 : Memref sig .tc .vmem S1x1x1024 .bf16)
  (h2 : M2.IsWhole) (h3 : M3.IsWhole)
  (X2 : S256x1024.Idx → EReal) (X3 : S1x1x1024.Idx → EReal) (H : S256x256.Idx → EReal)

/-- The columns `o …` of the group, as the body loads them. -/
abbrev ldx (o : ℕ) (h : ∀ a, (![0, o] : Fin 2 → ℕ) a + S256x256.size a ≤ S256x1024.size a) : Vec Ideal S256x256 .bf16 :=
  View.readAt (Elt Ideal) M2.view (Rect.unit (s := S256x1024) ![0, o] S256x256.size h).toLoadRect (h2.unread X2)
/-- The signs `o …` of the group, as the body loads them. -/
abbrev lds (o : ℕ) (h : ∀ a, (![0, 0, o] : Fin 3 → ℕ) a + S1x1x256.size a ≤ S1x1x1024.size a) : Vec Ideal S1x1x256 .bf16 :=
  View.readAt (Elt Ideal) M3.view (Rect.unit (s := S1x1x1024) ![0, 0, o] S1x1x256.size h).toLoadRect (h3.unread X3)

/-- The four chunks' products, as the body names them. -/
abbrev r0 : FVec Ideal S256x256 .f32 := k0_pay2 (ldx M2 h2 X2 0 inb_S256x1024_S256x256_0_0) (lds M3 h3 X3 0 inb_S1x1x1024_S1x1x256_0_0_0) H
abbrev r1 : FVec Ideal S256x256 .f32 := k0_pay3 (ldx M2 h2 X2 256 inb_S256x1024_S256x256_0_256) (lds M3 h3 X3 256 inb_S1x1x1024_S1x1x256_0_0_256) H
abbrev r2 : FVec Ideal S256x256 .f32 := k0_pay4 (ldx M2 h2 X2 512 inb_S256x1024_S256x256_0_512) (lds M3 h3 X3 512 inb_S1x1x1024_S1x1x256_0_0_512) H
abbrev r3 : FVec Ideal S256x256 .bf16 := k0_pay5 (ldx M2 h2 X2 768 inb_S256x1024_S256x256_0_768) (lds M3 h3 X3 768 inb_S1x1x1024_S1x1x256_0_0_768)

theorem r0_apply (u v : Fin 256) : r0 M2 M3 h2 h3 X2 X3 H (ix2 (n0 := 256) (n1 := 256) u v) = tcol X2 X3 H 0 u v := by
  unfold tcol r0 k0_pay2 ldx lds
  pointwise [Memref.IsWhole.readAt_unread]
theorem r1_apply (u v : Fin 256) : r1 M2 M3 h2 h3 X2 X3 H (ix2 (n0 := 256) (n1 := 256) u v) = tcol X2 X3 H 1 u v := by
  unfold tcol r1 k0_pay3 ldx lds
  pointwise [Memref.IsWhole.readAt_unread]
theorem r2_apply (u v : Fin 256) : r2 M2 M3 h2 h3 X2 X3 H (ix2 (n0 := 256) (n1 := 256) u v) = tcol X2 X3 H 2 u v := by
  unfold tcol r2 k0_pay4 ldx lds
  pointwise [Memref.IsWhole.readAt_unread]
theorem r3_apply (u v : Fin 256) : k0_pay6 (r3 M2 M3 h2 h3 X2 X3) H (ix2 (n0 := 256) (n1 := 256) u v) = tcol X2 X3 H 3 u v := by
  unfold tcol r3 k0_pay6 k0_pay5 ldx lds
  pointwise [Memref.IsWhole.readAt_unread]

theorem out0_apply (u v : Fin 256) :
    k0_pay11 (r0 M2 M3 h2 h3 X2 X3 H) (r1 M2 M3 h2 h3 X2 X3 H) (r2 M2 M3 h2 h3 X2 X3 H) (r3 M2 M3 h2 h3 X2 X3) H (ix2 (n0 := 256) (n1 := 256) u v)
      = bfly 0 (fun a => tcol X2 X3 H a u v) * Ideal.ofBits .f32 0x3D000000#32 := by
  unfold k0_pay11 k0_pay7 k0_pay9
  pointwise [r0_apply, r1_apply, r2_apply, r3_apply]
  rfl
theorem out1_apply (u v : Fin 256) :
    k0_pay13 (r0 M2 M3 h2 h3 X2 X3 H) (r1 M2 M3 h2 h3 X2 X3 H) (r2 M2 M3 h2 h3 X2 X3 H) (r3 M2 M3 h2 h3 X2 X3) H (ix2 (n0 := 256) (n1 := 256) u v)
      = bfly 1 (fun a => tcol X2 X3 H a u v) * Ideal.ofBits .f32 0x3D000000#32 := by
  unfold k0_pay13 k0_pay8 k0_pay10
  pointwise [r0_apply, r1_apply, r2_apply, r3_apply]
  rfl
theorem out2_apply (u v : Fin 256) :
    k0_pay15 (r0 M2 M3 h2 h3 X2 X3 H) (r1 M2 M3 h2 h3 X2 X3 H) (r2 M2 M3 h2 h3 X2 X3 H) (r3 M2 M3 h2 h3 X2 X3) H (ix2 (n0 := 256) (n1 := 256) u v)
      = bfly 2 (fun a => tcol X2 X3 H a u v) * Ideal.ofBits .f32 0x3D000000#32 := by
  unfold k0_pay15 k0_pay7 k0_pay9
  pointwise [r0_apply, r1_apply, r2_apply, r3_apply]
  rfl
theorem out3_apply (u v : Fin 256) :
    k0_pay19 (k0_pay17 (r0 M2 M3 h2 h3 X2 X3 H) (r1 M2 M3 h2 h3 X2 X3 H) (r2 M2 M3 h2 h3 X2 X3 H) (r3 M2 M3 h2 h3 X2 X3) H) (ix2 (n0 := 256) (n1 := 256) u v)
      = bfly 3 (fun a => tcol X2 X3 H a u v) * Ideal.ofBits .f32 0x3D000000#32 := by
  unfold k0_pay19 k0_pay17 k0_pay8 k0_pay10
  pointwise [r0_apply, r1_apply, r2_apply, r3_apply]
  rfl

/-- The 256 × 256 Hadamard matrix the body keeps. -/
def hm : S256x256.Idx → EReal := k0_pay18 (F := Ideal)

/-- A block of 256 columns from `256 b` of a group's rotated rows. -/
theorem rotBlk_apply (b : Fin 4) (u v : Fin 256) (j : S256x1024.Idx) (h0 : (j 0).val = u.val) (h1 : (j 1).val = 256 * b.val + v.val) :
    rotBlk X2 X3 H j = bfly b.val (fun a => tcol X2 X3 H a u v) * Ideal.ofBits .f32 0x3D000000#32 := by
  have e1 : (256 * b.val + v.val) / 256 = b.val := by omega
  have e2 : (256 * b.val + v.val) % 256 = v.val := by omega
  have e0 : (j 0 : Fin 256) = u := Fin.ext h0
  unfold rotBlk
  simp only [h1, e1, e2]
  rw [show (j 0 : Fin 256) = u from e0]

end Cert.KernelIdeal.Run

end
-- ==== Proof.KernelIdeal.Outs.lean ====
/-
  The five buffers the run leaves, named one by one: each is its list of stores over what was there, under its condition.
-/
module

public import proofs.«01_k».proof.Proof.KernelIdeal.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]
variable (c : Dev nD) (i : grid0.Coords)
  (M2 : Memref sig .tc .vmem S256x1024 .bf16) (h2 : M2.IsWhole)
  (M3 : Memref sig .tc .vmem S1x1x1024 .bf16) (h3 : M3.IsWhole)
  (M4 : Memref sig .tc .vmem S2x8x128 .i32) (h4 : M4.IsWhole)
  (M5 : Memref sig .tc .vmem S512x512 .i8) (h5 : M5.IsWhole)
  (M6 : Memref sig .tc .vmem S1x1x512 .bf16) (h6 : M6.IsWhole)
  (M7 : Memref sig .tc .vmem S256x512 .bf16) (h7 : M7.IsWhole)
  (M8 : Memref sig .tc .vmem S256x1024 .bf16) (h8 : M8.IsWhole)
  (M9 : Memref sig .tc .vmem S12x256x1024 .bf16) (h9 : M9.IsWhole)
  (M10 : Memref sig .tc .vmem S256x256 .bf16) (h10 : M10.IsWhole)
  (M11 : Memref sig .tc .vmem S1024x512 .bf16) (h11 : M11.IsWhole)
  (M12 : Memref sig .tc .vmem S256x512 .f32) (h12 : M12.IsWhole)
  (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f12 : Bf (F := F) c M12)

/-- The first result's window. -/
def out7 : Bf (F := F) c M7 :=
  if hc : k0_cond5 i = 1#1 then M7.view.writes (Elt F) f7
    [⟨Rect.unit (s := S256x512) ![0, 0] S256x512.size inb_S256x512_S256x512_0_0, k0_pay1 (run.sl.v7330_1 c i M2 M3 M4 M5 M6 M9 M10 M11 M12 f2 f3 f4 f5 f6 f9 f10 f12)⟩]
  else f7

/-- The second result's window. -/
def out8 : Bf (F := F) c M8 :=
  if hc : k0_cond2 i = 1#1 then M8.view.writes (Elt F) f8
    [⟨Rect.unit (s := S256x1024) ![0, 768] S256x256.size inb_S256x1024_S256x256_0_768, k0_pay19 (k0_pay17 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10))⟩,
     ⟨Rect.unit (s := S256x1024) ![0, 512] S256x256.size inb_S256x1024_S256x256_0_512, k0_pay15 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩,
     ⟨Rect.unit (s := S256x1024) ![0, 256] S256x256.size inb_S256x1024_S256x256_0_256, k0_pay13 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩,
     ⟨Rect.unit (s := S256x1024) ![0, 0] S256x256.size inb_S256x1024_S256x256_0_0, k0_pay11 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩]
  else f8

/-- The rotated groups' slots. -/
def out9 : Bf (F := F) c M9 :=
  if hc : k0_cond2 i = 1#1 then M9.view.writes (Elt F) f9
    [⟨Rect.unit (s := S12x256x1024) (k0_off4 i) S1x256x256.size (k0_off4_inb i hc), k0_pay20 (k0_pay17 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10))⟩,
     ⟨Rect.unit (s := S12x256x1024) (k0_off3 i) S1x256x256.size (k0_off3_inb i hc), k0_pay16 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩,
     ⟨Rect.unit (s := S12x256x1024) (k0_off2 i) S1x256x256.size (k0_off2_inb i hc), k0_pay14 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩,
     ⟨Rect.unit (s := S12x256x1024) (k0_off1 i) S1x256x256.size (k0_off1_inb i hc), k0_pay12 (run.sl.r c i M2 M3 M10 f2 f3 f10) (run.sl.r_1 c i M2 M3 M10 f2 f3 f10) (run.sl.r_2 c i M2 M3 M10 f2 f3 f10) (run.sl.r_3 c M2 M3 f2 f3) (run.sl.v7336 c i M10 f10)⟩]
  else f9

/-- The kept matrix. -/
def out10 : Bf (F := F) c M10 :=
  if hc : run.sl.v4 i = 1#1 then M10.view.writes (Elt F) f10
    [⟨Rect.unit (s := S256x256) ![0, 0] S256x256.size inb_S256x256_S256x256_0_0, k0_pay18 (F := F)⟩]
  else f10

/-- The accumulator after a first group's store. -/
def out12a : Bf (F := F) c M12 :=
  if hc : run.sl.v7323 i = 1#1 then M12.view.writes (Elt F) f12
    [⟨Rect.unit (s := S256x512) ![0, 0] S256x512.size inb_S256x512_S256x512_0_0, k0_pay783 (run.sl.r_455 c i M2 M3 M9 M10 f2 f3 f9 f10) (run.sl.v7319 c M4 M5 M6 M11 f4 f5 f6)⟩]
  else f12

/-- The accumulator. -/
def out12 : Bf (F := F) c M12 :=
  if hc : run.sl.v7326 i = 1#1 then M12.view.writes (Elt F) (out12a c i M2 M3 M4 M5 M6 M9 M10 M11 M12 f2 f3 f4 f5 f6 f9 f10 f12)
    [⟨Rect.unit (s := S256x512) ![0, 0] S256x512.size inb_S256x512_S256x512_0_0, k0_pay784 (run.sl.r_455 c i M2 M3 M9 M10 f2 f3 f9 f10) (run.sl.v7319 c M4 M5 M6 M11 f4 f5 f6)
      (View.readAt (Elt F) M12.view (Rect.unit (s := S256x512) ![0, 0] S256x512.size inb_S256x512_S256x512_0_0).toLoadRect (out12a c i M2 M3 M4 M5 M6 M9 M10 M11 M12 f2 f3 f4 f5 f6 f9 f10 f12))⟩]
  else out12a c i M2 M3 M4 M5 M6 M9 M10 M11 M12 f2 f3 f4 f5 f6 f9 f10 f12

theorem run_7 : (run c i M2 h2 M3 h3 M4 h4 M5 h5 M6 h6 M7 h7 M8 h8 M9 h9 M10 h10 M11 h11 M12 h12 f2 f3 f4 f5 f6 f7 f8 f9 f10 f12).1.1 = out7 c i M2 M3 M4 M5 M6 M7 M9 M10 M11 M12 f2 f3 f4 f5 f6 f7 f9 f10 f12 := by rfl
theorem run_8 : (run c i M2 h2 M3 h3 M4 h4 M5 h5 M6 h6 M7 h7 M8 h8 M9 h9 M10 h10 M11 h11 M12 h12 f2 f3 f4 f5 f6 f7 f8 f9 f10 f12).1.2.1 = out8 c i M2 M3 M8 M10 f2 f3 f8 f10 := by rfl
theorem run_9 : (run c i M2 h2 M3 h3 M4 h4 M5 h5 M6 h6 M7 h7 M8 h8 M9 h9 M10 h10 M11 h11 M12 h12 f2 f3 f4 f5 f6 f7 f8 f9 f10 f12).1.2.2.1 = out9 c i M2 M3 M9 M10 f2 f3 f9 f10 := by rfl
theorem run_10 : (run c i M2 h2 M3 h3 M4 h4 M5 h5 M6 h6 M7 h7 M8 h8 M9 h9 M10 h10 M11 h11 M12 h12 f2 f3 f4 f5 f6 f7 f8 f9 f10 f12).1.2.2.2.1 = out10 c i M10 f10 := by rfl
theorem run_12 : (run c i M2 h2 M3 h3 M4 h4 M5 h5 M6 h6 M7 h7 M8 h8 M9 h9 M10 h10 M11 h11 M12 h12 f2 f3 f4 f5 f6 f7 f8 f9 f10 f12).1.2.2.2.2 = out12 c i M2 M3 M4 M5 M6 M9 M10 M11 M12 f2 f3 f4 f5 f6 f9 f10 f12 := by rfl
theorem v7336_out : run.sl.v7336 (F := F) c i M10 f10 = View.readAt (Elt F) M10.view (Rect.unit (s := S256x256) ![0, 0] S256x256.size inb_S256x256_S256x256_0_0).toLoadRect (out10 c i M10 f10) := by rfl
theorem r_455_out : run.sl.r_455 (F := F) c i M2 M3 M9 M10 f2 f3 f9 f10
    = k0_pay781 (View.readAt (Elt F) M9.view (Rect.unit (s := S12x256x1024) (k0_off5 i) S1x256x1024.size (k0_off5_inb i)).toLoadRect (out9 c i M2 M3 M9 M10 f2 f3 f9 f10)) := by rfl
theorem v7330_1_out : run.sl.v7330_1 (F := F) c i M2 M3 M4 M5 M6 M9 M10 M11 M12 f2 f3 f4 f5 f6 f9 f10 f12
    = View.readAt (Elt F) M12.view (Rect.unit (s := S256x512) ![0, 0] S256x512.size inb_S256x512_S256x512_0_0).toLoadRect (out12 c i M2 M3 M4 M5 M6 M9 M10 M11 M12 f2 f3 f4 f5 f6 f9 f10 f12) := by rfl

end Cert.KernelIdeal.Run

end
-- ==== Proof.KernelIdeal.Owns.lean ====
/-
  The body's run (Run.lean) read through the memrefs: from the eleven operands owned at contents `X2 … X12`, the body runs to
  the inputs as they were and the others at what the run's five-tuple reads.
-/
module

public import proofs.«01_k».proof.Proof.KernelIdeal.Run
public import Idealize.ShloMosaic.Lib.Pipeline.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole memref owned at `X` is its buffer held at the contents that read `X`. -/
theorem owns_unread (c : Dev nD) {sp : Space} {S : Shape} {e : EltTy} (M : Memref sig .tc sp S e) (h : M.IsWhole)
    (X : S.Idx → Elt F e) : (owns (c : Thread nD τ) M fullShare X : sProp 𝕄) = pt c M (h.unread X) := by
  obtain ⟨b, hsp, hsh, he, h'⟩ := id h
  subst hsp hsh he
  cases h'
  show (owns (c : Thread nD τ) (Memref.whole b) fullShare X : sProp 𝕄) = _
  rw [owns_whole]
  have hX : h.unread X = X := h.read_unread X
  rw [hX]

/-- A whole memref's buffer held at `f` is the memref owned at what it reads of `f`. -/
theorem pt_eq_owns (c : Dev nD) {sp : Space} {S : Shape} {e : EltTy} (M : Memref sig .tc sp S e) (h : M.IsWhole)
    (f : Bf (F := F) c M) : (pt c M f : sProp 𝕄) = owns (c : Thread nD τ) M fullShare (M.view.read (Elt F) f) := by
  rw [owns_unread c M h, h.unread_read]

/-- The body's triple over contents: `Y7 … Y12` are what the run's five buffers read. -/
theorem body_owns (c : Dev nD) (i : grid0.Coords)
    (M2 : Memref sig .tc .vmem S256x1024 .bf16) (h2 : M2.IsWhole)
    (M3 : Memref sig .tc .vmem S1x1x1024 .bf16) (h3 : M3.IsWhole)
    (M4 : Memref sig .tc .vmem S2x8x128 .i32) (h4 : M4.IsWhole)
    (M5 : Memref sig .tc .vmem S512x512 .i8) (h5 : M5.IsWhole)
    (M6 : Memref sig .tc .vmem S1x1x512 .bf16) (h6 : M6.IsWhole)
    (M7 : Memref sig .tc .vmem S256x512 .bf16) (h7 : M7.IsWhole)
    (M8 : Memref sig .tc .vmem S256x1024 .bf16) (h8 : M8.IsWhole)
    (M9 : Memref sig .tc .vmem S12x256x1024 .bf16) (h9 : M9.IsWhole)
    (M10 : Memref sig .tc .vmem S256x256 .bf16) (h10 : M10.IsWhole)
    (M11 : Memref sig .tc .vmem S1024x512 .bf16) (h11 : M11.IsWhole)
    (M12 : Memref sig .tc .vmem S256x512 .f32) (h12 : M12.IsWhole)
    (X2 : S256x1024.Idx → Elt F .bf16) (X3 : S1x1x1024.Idx → Elt F .bf16) (X4 : S2x8x128.Idx → Elt F .i32)
    (X5 : S512x512.Idx → Elt F .i8) (X6 : S1x1x512.Idx → Elt F .bf16) (X7 : S256x512.Idx → Elt F .bf16)
    (X8 : S256x1024.Idx → Elt F .bf16) (X9 : S12x256x1024.Idx → Elt F .bf16) (X10 : S256x256.Idx → Elt F .bf16)
    (X12 : S256x512.Idx → Elt F .f32)
    (Y7 : S256x512.Idx → Elt F .bf16)
    (Y8 : S256x1024.Idx → Elt F .bf16) (Y9 : S12x256x1024.Idx → Elt F .bf16) (Y10 : S256x256.Idx → Elt F .bf16)
    (Y12 : S256x512.Idx → Elt F .f32)
    (e7 : M7.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.1 = Y7)
    (e8 : M8.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.1 = Y8)
    (e9 : M9.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.1 = Y9)
    (e10 : M10.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.2.1 = Y10)
    (e12 : M12.view.read (Elt F) (run c i M2 h2 M3 h3 M4 h4 M5 h5 M6 h6 M7 h7 M8 h8 M9 h9 M10 h10 M11 h11 M12 h12 (h2.unread X2) (h3.unread X3) (h4.unread X4) (h5.unread X5) (h6.unread X6) (h7.unread X7) (h8.unread X8) (h9.unread X9) (h10.unread X10) (h12.unread X12)).1.2.2.2.2 = Y12)
    (E : Set ℕ) (Q : PUnit → sProp 𝕄) :
    iprop(owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6 ∗ owns (c : Thread nD τ) M7 fullShare X7
        ∗ owns (c : Thread nD τ) M8 fullShare X8 ∗ owns (c : Thread nD τ) M9 fullShare X9 ∗ owns (c : Thread nD τ) M10 fullShare X10
        ∗ (∃ X, owns (c : Thread nD τ) M11 fullShare X) ∗ owns (c : Thread nD τ) M12 fullShare X12
        ∗ (iprop(owns (c : Thread nD τ) M2 fullShare X2 ∗ owns (c : Thread nD τ) M3 fullShare X3 ∗ owns (c : Thread nD τ) M4 fullShare X4
            ∗ owns (c : Thread nD τ) M5 fullShare X5 ∗ owns (c : Thread nD τ) M6 fullShare X6 ∗ owns (c : Thread nD τ) M7 fullShare Y7
            ∗ owns (c : Thread nD τ) M8 fullShare Y8 ∗ owns (c : Thread nD τ) M9 fullShare Y9 ∗ owns (c : Thread nD τ) M10 fullShare Y10
            ∗ (∃ X, owns (c : Thread nD τ) M11 fullShare X) ∗ owns (c : Thread nD τ) M12 fullShare Y12) -∗ Q ⟨⟩))
      ⊢ wp frame (wpE (defs₀ (F := F)) Variants.none c none) E
          (cc0_higgs i M2 h2 M3 h3 M4 h4 M5 h5 M6 h6 M7 h7 M8 h8 M9 h9 M10 h10 M11 h11 M12 h12) Q := by
  generalize run c i M2 h2 M3 h3 M4 h4 M5 h5 M6 h6 M7 h7 M8 h8 M9 h9 M10 h10 M11 h11 M12 h12 (h2.unread X2) (h3.unread X3)
    (h4.unread X4) (h5.unread X5) (h6.unread X6) (h7.unread X7) (h8.unread X8) (h9.unread X9) (h10.unread X10) (h12.unread X12) = r
    at e7 e8 e9 e10 e12
  subst e7 e8 e9 e10 e12
  have h := fun f11 => r.2 f11 E Q
  simp only [pt_eq_owns c M2 h2, pt_eq_owns c M3 h3, pt_eq_owns c M4 h4, pt_eq_owns c M5 h5, pt_eq_owns c M6 h6, pt_eq_owns c M7 h7,
    pt_eq_owns c M8 h8, pt_eq_owns c M9 h9, pt_eq_owns c M10 h10, pt_eq_owns c M12 h12, Memref.IsWhole.read_unread] at h
  rw [h11.exists_owns_eq]
  iintro ⟨H2, H3, H4, H5, H6, H7, H8, H9, H10, ⟨%f11, H11⟩, H12, Hk⟩
  iapply h f11
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hk

end Cert.KernelIdeal.Run

end
-- ==== Proof.KernelIdeal.Step.lean ====
/-
  What one run of the body leaves, as values. With `H` the kept Hadamard matrix, the group's rotated rows are
  `rotBlk X2 X3 H` (written to slot `i 1` of the scratch and to the second result's window at the first column block), the
  product `pm` of the group's rows by the decoded weights is added to the accumulator, and the accumulator goes to the
  first result's window at the last group.
-/
module

public import proofs.«01_k».proof.Proof.KernelIdeal.Rotate
public import proofs.«01_k».proof.Proof.KernelIdeal.Outs
public import proofs.«01_k».proof.Proof.KernelIdeal.Owns
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

/-! ## The conditions, as coordinates -/

theorem cond2_iff (i : grid0.Coords) : k0_cond2 i = 1#1 ↔ (i 0).val = 0 := by
  have key : ∀ a : Fin 8, (Scalar.cmpi .ne (Scalar.extui (Scalar.cmpi .eq (BitVec.ofNat 32 a.val) 0#32) : BitVec 32) 0#32 = 1#1 ↔ a.val = 0) := by decide
  exact key (i 0)
theorem cond5_iff (i : grid0.Coords) : k0_cond5 i = 1#1 ↔ (i 1).val = 11 := by
  have key : ∀ a : Fin 12, (Scalar.cmpi .ne (Scalar.extui (Scalar.cmpi .eq (BitVec.ofNat 32 a.val) 11#32) : BitVec 32) 0#32 = 1#1 ↔ a.val = 11) := by decide
  exact key (i 1)
theorem v4_iff (i : grid0.Coords) : run.sl.v4 i = 1#1 ↔ (i 0).val = 0 ∧ (i 1).val = 0 := by
  have key : ∀ a : Fin 8, ∀ b : Fin 12, (Scalar.cmpi .ne (Scalar.extui (Scalar.andi (Scalar.cmpi .eq (BitVec.ofNat 32 a.val) 0#32) (Scalar.cmpi .eq (BitVec.ofNat 32 b.val) 0#32)) : BitVec 32) 0#32 = 1#1 ↔ a.val = 0 ∧ b.val = 0) := by decide
  exact key (i 0) (i 1)
theorem v7323_iff (i : grid0.Coords) : run.sl.v7323 i = 1#1 ↔ (i 1).val = 0 := by
  have key : ∀ a : Fin 12, (Scalar.cmpi .ne (Scalar.extui (Scalar.cmpi .eq (BitVec.ofNat 32 a.val) 0#32) : BitVec 32) 0#32 = 1#1 ↔ a.val = 0) := by decide
  exact key (i 1)
theorem v7326_iff (i : grid0.Coords) : run.sl.v7326 i = 1#1 ↔ (i 1).val ≠ 0 := by
  have key : ∀ a : Fin 12, (Scalar.cmpi .ne (Scalar.extui (Scalar.cmpi .sgt (BitVec.ofNat 32 a.val) 0#32) : BitVec 32) 0#32 = 1#1 ↔ a.val ≠ 0) := by decide
  exact key (i 1)

/-- A slot's index word, as the coordinate. -/
theorem slot_word (i : grid0.Coords) : (Scalar.indexCast (BitVec.ofNat 32 (i 1).val) : Index).toNat = (i 1).val := by
  have key : ∀ a : Fin 12, (Scalar.indexCast (BitVec.ofNat 32 a.val) : Index).toNat = a.val := by decide
  exact key (i 1)

/-! ## Writes over contents -/

/-- Stores whose payloads are `G` at their rectangles, over contents that are `G` off them, leave `G`. -/
theorem read_writes_of {sp : Space} {S : Shape} {e : EltTy} (v : View sig .tc sp S e) (f : v.ty.Contents (Elt Ideal))
    (L : List (View.Piece (Elt Ideal) S e)) (X G : S.Idx → Elt Ideal e) (hX : v.read (Elt Ideal) f = X)
    (hL : ∀ p ∈ L, ∀ x : p.1.shape.Idx, p.2 x = G (p.1.emb x)) (hn : ∀ y, (∀ p ∈ L, y ∉ p.1.set) → X y = G y) :
    v.read (Elt Ideal) (v.writes (Elt Ideal) f L) = G := by
  funext y
  by_cases hy : ∃ p ∈ L, y ∈ p.1.set
  · rw [View.read_writes_apply_eq_canon v f y L hy, View.canon_apply_of_pieces G L hL y hy]
  · have hy' : ∀ p ∈ L, y ∉ p.1.set := fun p hp hm => hy ⟨p, hp, hm⟩
    rw [View.read_writes_apply_of_forall_not_mem (v := v) (f := f) y L hy', hX, hn y hy']

/-- One product: a group's rows by its decoded weights. -/
def pm (A : S256x1024.Idx → EReal) (W : S1024x512.Idx → EReal) : S256x512.Idx → EReal := fun y =>
  ∑ k : Fin 1024, A (ix2 (n0 := 256) (n1 := 1024) (y 0) k) * W (ix2 (n0 := 1024) (n1 := 512) k (y 1))

theorem pay782_eq (A : S256x1024.Idx → EReal) (W : S1024x512.Idx → EReal) : k0_pay782 (F := Ideal) A W = pm A W := by
  funext y
  idx_vars y
  unfold k0_pay782 pm
  pointwise

theorem pay783_eq (A : S256x1024.Idx → EReal) (W : S1024x512.Idx → EReal) : k0_pay783 (F := Ideal) A W = pm A W := by
  rw [← pay782_eq]
  unfold k0_pay783
  funext y
  idx_vars y
  pointwise

theorem pay784_eq (A : S256x1024.Idx → EReal) (W : S1024x512.Idx → EReal) (P : S256x512.Idx → EReal) :
    k0_pay784 (F := Ideal) A W P = fun y => P y + pm A W y := by
  rw [← pay782_eq]
  unfold k0_pay784
  funext y
  idx_vars y
  pointwise

theorem pay1_eq (P : S256x512.Idx → EReal) : k0_pay1 (F := Ideal) P = P := by
  unfold k0_pay1
  funext y
  idx_vars y
  pointwise

/-- The slots after the body: slot `i 1` rewritten at the first column block. -/
def slots9 (i : grid0.Coords) (X9 : S12x256x1024.Idx → EReal) (R : S256x1024.Idx → EReal) : S12x256x1024.Idx → EReal := fun y =>
  if (i 0).val = 0 ∧ (y 0).val = (i 1).val then R (ix2 (n0 := 256) (n1 := 1024) (y 1) (y 2)) else X9 y

/-- Slot `i 1`. -/
def slotOf (i : grid0.Coords) (X9 : S12x256x1024.Idx → EReal) : S256x1024.Idx → EReal := fun y =>
  X9 (ix3 (n0 := 12) (n1 := 256) (n2 := 1024) (i 1) (y 0) (y 1))

section
variable (c : Dev nD) (i : grid0.Coords)
    (M2 : Memref sig .tc .vmem S256x1024 .bf16) (h2 : M2.IsWhole)
    (M3 : Memref sig .tc .vmem S1x1x1024 .bf16) (h3 : M3.IsWhole)
    (M4 : Memref sig .tc .vmem S2x8x128 .i32) (h4 : M4.IsWhole)
    (M5 : Memref sig .tc .vmem S512x512 .i8) (h5 : M5.IsWhole)
    (M6 : Memref sig .tc .vmem S1x1x512 .bf16) (h6 : M6.IsWhole)
    (M7 : Memref sig .tc .vmem S256x512 .bf16) (h7 : M7.IsWhole)
    (M8 : Memref sig .tc .vmem S256x1024 .bf16) (h8 : M8.IsWhole)
    (M9 : Memref sig .tc .vmem S12x256x1024 .bf16) (h9 : M9.IsWhole)
    (M10 : Memref sig .tc .vmem S256x256 .bf16) (h10 : M10.IsWhole)
    (M11 : Memref sig .tc .vmem S1024x512 .bf16) (h11 : M11.IsWhole)
    (M12 : Memref sig .tc .vmem S256x512 .f32) (h12 : M12.IsWhole)
    (X2 : S256x1024.Idx → EReal) (X3 : S1x1x1024.Idx → EReal) (X4 : S2x8x128.Idx → BitVec 32)
    (X5 : S512x512.Idx → BitVec 8) (X6 : S1x1x512.Idx → EReal) (X7 : S256x512.Idx → EReal)
    (X8 : S256x1024.Idx → EReal) (X9 : S12x256x1024.Idx → EReal) (X10 : S256x256.Idx → EReal)
    (X12 : S256x512.Idx → EReal)

/-- The kept matrix after the body. -/
def y10 (i : grid0.Coords) (X10 : S256x256.Idx → EReal) : S256x256.Idx → EReal := if (i 0).val = 0 ∧ (i 1).val = 0 then hm else X10

theorem read10 : (M10.view.read (Elt Ideal) (out10 (F := Ideal) c i M10 (h10.unread X10))) = y10 i X10 := by
  unfold y10 out10
  by_cases hc : run.sl.v4 i = 1#1
  · rw [dif_pos hc, if_pos ((v4_iff i).mp hc), View.read_writes_full]; rfl
  · rw [dif_neg hc, if_neg (fun h => hc ((v4_iff i).mpr h)), h10.read_unread]

theorem v7336_eq : run.sl.v7336 (F := Ideal) c i M10 (h10.unread X10) = y10 i X10 := by
  rw [v7336_out, ← read10 c i M10 h10 X10]
  exact View.readAt_full _ _ _

/-- The four stores into the second result's window leave the group's rotated rows. -/
theorem win8 (f : M8.view.ty.Contents (Elt Ideal)) (H : S256x256.Idx → EReal) :
    M8.view.read (Elt Ideal) (M8.view.writes (Elt Ideal) f
      [⟨Rect.unit (s := S256x1024) ![0, 768] S256x256.size inb_S256x1024_S256x256_0_768, k0_pay19 (k0_pay17 (r0 M2 M3 h2 h3 X2 X3 H) (r1 M2 M3 h2 h3 X2 X3 H) (r2 M2 M3 h2 h3 X2 X3 H) (r3 M2 M3 h2 h3 X2 X3) H)⟩,
       ⟨Rect.unit (s := S256x1024) ![0, 512] S256x256.size inb_S256x1024_S256x256_0_512, k0_pay15 (r0 M2 M3 h2 h3 X2 X3 H) (r1 M2 M3 h2 h3 X2 X3 H) (r2 M2 M3 h2 h3 X2 X3 H) (r3 M2 M3 h2 h3 X2 X3) H⟩,
       ⟨Rect.unit (s := S256x1024) ![0, 256] S256x256.size inb_S256x1024_S256x256_0_256, k0_pay13 (r0 M2 M3 h2 h3 X2 X3 H) (r1 M2 M3 h2 h3 X2 X3 H) (r2 M2 M3 h2 h3 X2 X3 H) (r3 M2 M3 h2 h3 X2 X3) H⟩,
       ⟨Rect.unit (s := S256x1024) ![0, 0] S256x256.size inb_S256x1024_S256x256_0_0, k0_pay11 (r0 M2 M3 h2 h3 X2 X3 H) (r1 M2 M3 h2 h3 X2 X3 H) (r2 M2 M3 h2 h3 X2 X3 H) (r3 M2 M3 h2 h3 X2 X3) H⟩])
      = rotBlk X2 X3 H := by
  refine read_writes_of _ _ _ _ _ rfl ?_ ?_
  · intro p hp x
    simp only [List.mem_cons, List.not_mem_nil, or_false] at hp
    rcases hp with rfl | rfl | rfl | rfl
    all_goals idx_vars x
    · exact (out3_apply M2 M3 h2 h3 X2 X3 H x0 x1).trans (rotBlk_apply X2 X3 H 3 x0 x1 _ (by show 0 + 1 * x0.val = _; omega) (by show 768 + 1 * x1.val = 256 * 3 + _; omega)).symm
    · exact (out2_apply M2 M3 h2 h3 X2 X3 H x0 x1).trans (rotBlk_apply X2 X3 H 2 x0 x1 _ (by show 0 + 1 * x0.val = _; omega) (by show 512 + 1 * x1.val = 256 * 2 + _; omega)).symm
    · exact (out1_apply M2 M3 h2 h3 X2 X3 H x0 x1).trans (rotBlk_apply X2 X3 H 1 x0 x1 _ (by show 0 + 1 * x0.val = _; omega) (by show 256 + 1 * x1.val = 256 * 1 + _; omega)).symm
    · exact (out0_apply M2 M3 h2 h3 X2 X3 H x0 x1).trans (rotBlk_apply X2 X3 H 0 x0 x1 _ (by show 0 + 1 * x0.val = _; omega) (by show 0 + 1 * x1.val = 256 * 0 + _; omega)).symm
  · intro y hy
    exfalso
    have h0 : (y 0).val < 256 := (y 0).isLt
    have h1 : (y 1).val < 1024 := (y 1).isLt
    simp only [List.mem_cons, List.not_mem_nil, or_false, forall_eq_or_imp, forall_eq, Rect.mem_set_unit, Fin.forall_fin_two] at hy
    obtain ⟨g3, g2, g1, g0⟩ := hy
    have k3 : ¬ ((0 ≤ (y 0).val ∧ (y 0).val < 0 + 256) ∧ (768 ≤ (y 1).val ∧ (y 1).val < 768 + 256)) := g3
    have k2 : ¬ ((0 ≤ (y 0).val ∧ (y 0).val < 0 + 256) ∧ (512 ≤ (y 1).val ∧ (y 1).val < 512 + 256)) := g2
    have k1 : ¬ ((0 ≤ (y 0).val ∧ (y 0).val < 0 + 256) ∧ (256 ≤ (y 1).val ∧ (y 1).val < 256 + 256)) := g1
    have k0 : ¬ ((0 ≤ (y 0).val ∧ (y 0).val < 0 + 256) ∧ (0 ≤ (y 1).val ∧ (y 1).val < 0 + 256)) := g0
    omega

theorem off1_eq (i : grid0.Coords) : k0_off1 i = ![(i 1).val, 0, 0] := by unfold k0_off1; simp only [slot_word]
theorem off2_eq (i : grid0.Coords) : k0_off2 i = ![(i 1).val, 0, 256] := by unfold k0_off2; simp only [slot_word]
theorem off3_eq (i : grid0.Coords) : k0_off3 i = ![(i 1).val, 0, 512] := by unfold k0_off3; simp only [slot_word]
theorem off4_eq (i : grid0.Coords) : k0_off4 i = ![(i 1).val, 0, 768] := by unfold k0_off4; simp only [slot_word]
theorem off5_eq (i : grid0.Coords) : k0_off5 i = ![(i 1).val, 0, 0] := by unfold k0_off5; simp only [slot_word]

/-- A block of one slot under the same leading unit axis: the payload read through its reshape. -/
theorem unit_apply (P : FVec Ideal S256x256 .bf16) (x0 : Fin 1) (u v : Fin 256) :
    shapeCast S1x256x256 P shapeCasts_S256x256_S1x256x256 (ix3 (n0 := 1) (n1 := 256) (n2 := 256) x0 u v) = P (ix2 (n0 := 256) (n1 := 256) u v) := by
  pointwise

/-- A payload that is output `b` of the butterfly is the rotated rows at its columns. -/
theorem rot_row (H : S256x256.Idx → EReal) (b : Fin 4) (P : FVec Ideal S256x256 .bf16)
    (hP : ∀ u v : Fin 256, P (ix2 (n0 := 256) (n1 := 256) u v) = bfly b.val (fun a => tcol X2 X3 H a u v) * Ideal.ofBits .f32 0x3D000000#32) (u v : Fin 256) :
    P (ix2 (n0 := 256) (n1 := 256) u v) = rotBlk X2 X3 H (ix2 (n0 := 256) (n1 := 1024) u ⟨256 * b.val + v.val, by omega⟩) :=
  (hP u v).trans (rotBlk_apply X2 X3 H b u v _ rfl rfl).symm

/-- One store of the four: a slot's 256 columns from `256 b`. -/
theorem piece9 (R : S256x1024.Idx → EReal) (P : FVec Ideal S256x256 .bf16) (b : Fin 4) (off : Fin 3 → ℕ) (ho : off = ![(i 1).val, 0, 256 * b.val])
    (hi0 : (i 0).val = 0) (inb : ∀ a, off a + S1x256x256.size a ≤ S12x256x1024.size a)
    (hP : ∀ u v : Fin 256, P (ix2 (n0 := 256) (n1 := 256) u v) = R (ix2 (n0 := 256) (n1 := 1024) u ⟨256 * b.val + v.val, by omega⟩))
    (x : (Rect.unit (s := S12x256x1024) off S1x256x256.size inb).shape.Idx) :
    shapeCast S1x256x256 P shapeCasts_S256x256_S1x256x256 x = slots9 i X9 R ((Rect.unit (s := S12x256x1024) off S1x256x256.size inb).emb x) := by
  subst ho
  idx_vars x
  rw [unit_apply, hP]
  unfold slots9
  rw [if_pos ⟨hi0, show (i 1).val + 1 * x0.val = (i 1).val by omega⟩]
  congr 1
  funext a; apply Fin.ext
  match a with
  | ⟨0, _⟩ => show x1.val = 0 + 1 * x1.val; omega
  | ⟨1, _⟩ => show 256 * b.val + x2.val = 256 * b.val + 1 * x2.val; omega

/-- A slot's 256 columns from `o` hold the points of the slot with those columns. -/
theorem mem9 (off : Fin 3 → ℕ) (o : ℕ) (ho : off = ![(i 1).val, 0, o]) (inb : ∀ a, off a + S1x256x256.size a ≤ S12x256x1024.size a)
    (y : S12x256x1024.Idx) (hy0 : (y 0).val = (i 1).val) (h : o ≤ (y 2).val ∧ (y 2).val < o + 256) :
    y ∈ (Rect.unit (s := S12x256x1024) off S1x256x256.size inb).set := by
  subst ho
  have h1 : (y 1).val < 256 := (y 1).isLt
  rw [Rect.mem_set_unit]
  intro a
  fin_cases a
  · exact ⟨show (i 1).val ≤ (y 0).val by omega, show (y 0).val < (i 1).val + 1 by omega⟩
  · exact ⟨show 0 ≤ (y 1).val by omega, show (y 1).val < 0 + 256 by omega⟩
  · exact ⟨show o ≤ (y 2).val by omega, show (y 2).val < o + 256 by omega⟩

/-- The four stores into the slots leave slot `i 1` at the group's rotated rows and the others as they were. -/
theorem win9 (hi0 : (i 0).val = 0) (H : S256x256.Idx → EReal) (b4 b3 b2 b1) :
    M9.view.read (Elt Ideal) (M9.view.writes (Elt Ideal) (h9.unread X9)
      [⟨Rect.unit (s := S12x256x1024) (k0_off4 i) S1x256x256.size b4, k0_pay20 (k0_pay17 (r0 M2 M3 h2 h3 X2 X3 H) (r1 M2 M3 h2 h3 X2 X3 H) (r2 M2 M3 h2 h3 X2 X3 H) (r3 M2 M3 h2 h3 X2 X3) H)⟩,
       ⟨Rect.unit (s := S12x256x1024) (k0_off3 i) S1x256x256.size b3, k0_pay16 (r0 M2 M3 h2 h3 X2 X3 H) (r1 M2 M3 h2 h3 X2 X3 H) (r2 M2 M3 h2 h3 X2 X3 H) (r3 M2 M3 h2 h3 X2 X3) H⟩,
       ⟨Rect.unit (s := S12x256x1024) (k0_off2 i) S1x256x256.size b2, k0_pay14 (r0 M2 M3 h2 h3 X2 X3 H) (r1 M2 M3 h2 h3 X2 X3 H) (r2 M2 M3 h2 h3 X2 X3 H) (r3 M2 M3 h2 h3 X2 X3) H⟩,
       ⟨Rect.unit (s := S12x256x1024) (k0_off1 i) S1x256x256.size b1, k0_pay12 (r0 M2 M3 h2 h3 X2 X3 H) (r1 M2 M3 h2 h3 X2 X3 H) (r2 M2 M3 h2 h3 X2 X3 H) (r3 M2 M3 h2 h3 X2 X3) H⟩])
      = slots9 i X9 (rotBlk X2 X3 H) := by
  refine read_writes_of _ _ _ X9 _ (h9.read_unread _) ?_ ?_
  · intro p hp x
    simp only [List.mem_cons, List.not_mem_nil, or_false] at hp
    rcases hp with rfl | rfl | rfl | rfl
    · exact piece9 i X9 (rotBlk X2 X3 H) (k0_pay19 (k0_pay17 (r0 M2 M3 h2 h3 X2 X3 H) (r1 M2 M3 h2 h3 X2 X3 H) (r2 M2 M3 h2 h3 X2 X3 H) (r3 M2 M3 h2 h3 X2 X3) H)) 3 (k0_off4 i) (off4_eq i) hi0 b4 (rot_row X2 X3 H 3 _ (out3_apply M2 M3 h2 h3 X2 X3 H)) x
    · exact piece9 i X9 (rotBlk X2 X3 H) (k0_pay15 (r0 M2 M3 h2 h3 X2 X3 H) (r1 M2 M3 h2 h3 X2 X3 H) (r2 M2 M3 h2 h3 X2 X3 H) (r3 M2 M3 h2 h3 X2 X3) H) 2 (k0_off3 i) (off3_eq i) hi0 b3 (rot_row X2 X3 H 2 _ (out2_apply M2 M3 h2 h3 X2 X3 H)) x
    · exact piece9 i X9 (rotBlk X2 X3 H) (k0_pay13 (r0 M2 M3 h2 h3 X2 X3 H) (r1 M2 M3 h2 h3 X2 X3 H) (r2 M2 M3 h2 h3 X2 X3 H) (r3 M2 M3 h2 h3 X2 X3) H) 1 (k0_off2 i) (off2_eq i) hi0 b2 (rot_row X2 X3 H 1 _ (out1_apply M2 M3 h2 h3 X2 X3 H)) x
    · exact piece9 i X9 (rotBlk X2 X3 H) (k0_pay11 (r0 M2 M3 h2 h3 X2 X3 H) (r1 M2 M3 h2 h3 X2 X3 H) (r2 M2 M3 h2 h3 X2 X3 H) (r3 M2 M3 h2 h3 X2 X3) H) 0 (k0_off1 i) (off1_eq i) hi0 b1 (rot_row X2 X3 H 0 _ (out0_apply M2 M3 h2 h3 X2 X3 H)) x
  · intro y hy
    unfold slots9
    have hne : ¬ ((i 0).val = 0 ∧ (y 0).val = (i 1).val) := by
      rintro ⟨-, hy0⟩
      have h1 : (y 1).val < 256 := (y 1).isLt
      have h2 : (y 2).val < 1024 := (y 2).isLt
      simp only [List.mem_cons, List.not_mem_nil, or_false, forall_eq_or_imp, forall_eq] at hy
      obtain ⟨g3, g2, g1, g0⟩ := hy
      rcases (by omega : (768 ≤ (y 2).val) ∨ (512 ≤ (y 2).val ∧ (y 2).val < 768) ∨ (256 ≤ (y 2).val ∧ (y 2).val < 512) ∨ (y 2).val < 256) with g | g | g | g
      · exact g3 (mem9 i _ 768 (off4_eq i) _ y hy0 (by omega))
      · exact g2 (mem9 i _ 512 (off3_eq i) _ y hy0 (by omega))
      · exact g1 (mem9 i _ 256 (off2_eq i) _ y hy0 (by omega))
      · exact g0 (mem9 i _ 0 (off1_eq i) _ y hy0 (by omega))
    rw [if_neg hne]

/-- The slots the body reads after its stores. -/
abbrev st9 (i : grid0.Coords) (X9 : S12x256x1024.Idx → EReal) (X2 : S256x1024.Idx → EReal) (X3 : S1x1x1024.Idx → EReal) (X10 : S256x256.Idx → EReal) :
    S12x256x1024.Idx → EReal := slots9 i X9 (rotBlk X2 X3 (y10 i X10))

/-- The group's product. -/
abbrev prod (i : grid0.Coords) (X2 : S256x1024.Idx → EReal) (X3 : S1x1x1024.Idx → EReal) (X4 : S2x8x128.Idx → BitVec 32)
    (X5 : S512x512.Idx → BitVec 8) (X6 : S1x1x512.Idx → EReal) (X9 : S12x256x1024.Idx → EReal) (X10 : S256x256.Idx → EReal) : S256x512.Idx → EReal :=
  pm (slotOf i (st9 i X9 X2 X3 X10)) (wdec X4 X5 X6)

/-- The accumulator after the body. -/
def y12 (i : grid0.Coords) (X12 : S256x512.Idx → EReal) (P : S256x512.Idx → EReal) : S256x512.Idx → EReal :=
  if (i 1).val = 0 then P else fun y => X12 y + P y

theorem read8 : M8.view.read (Elt Ideal) (out8 (F := Ideal) c i M2 M3 M8 M10 (h2.unread X2) (h3.unread X3) (h8.unread X8) (h10.unread X10))
    = if (i 0).val = 0 then rotBlk X2 X3 (y10 i X10) else X8 := by
  unfold out8 run.sl.r run.sl.r_1 run.sl.r_2 run.sl.r_3
  simp only [v7336_eq]
  by_cases hc : k0_cond2 i = 1#1
  · rw [dif_pos hc, if_pos ((cond2_iff i).mp hc)]
    exact win8 M2 h2 M3 h3 M8 X2 X3 _ _
  · rw [dif_neg hc, if_neg (fun h => hc ((cond2_iff i).mpr h)), h8.read_unread]

theorem read9 : M9.view.read (Elt Ideal) (out9 (F := Ideal) c i M2 M3 M9 M10 (h2.unread X2) (h3.unread X3) (h9.unread X9) (h10.unread X10))
    = st9 i X9 X2 X3 X10 := by
  unfold out9 run.sl.r run.sl.r_1 run.sl.r_2 run.sl.r_3
  simp only [v7336_eq]
  by_cases hc : k0_cond2 i = 1#1
  · rw [dif_pos hc]
    exact win9 i M2 h2 M3 h3 M9 h9 X2 X3 X9 ((cond2_iff i).mp hc) _ _ _ _ _
  · rw [dif_neg hc, h9.read_unread]
    funext y
    unfold st9 slots9
    rw [if_neg (fun h => hc ((cond2_iff i).mpr h.1))]

/-- The slot the body loads. -/
theorem r455_eq : run.sl.r_455 (F := Ideal) c i M2 M3 M9 M10 (h2.unread X2) (h3.unread X3) (h9.unread X9) (h10.unread X10)
    = slotOf i (st9 i X9 X2 X3 X10) := by
  have hR := read9 c i M2 h2 M3 h3 M9 h9 M10 h10 X2 X3 X9 X10
  rw [r_455_out]
  generalize out9 (F := Ideal) c i M2 M3 M9 M10 (h2.unread X2) (h3.unread X3) (h9.unread X9) (h10.unread X10) = b at hR ⊢
  rw [← hR]
  funext y
  idx_vars y
  unfold k0_pay781 slotOf
  pointwise
  rw [View.readAt_apply]
  congr 1
  funext a; apply Fin.ext
  have e := off5_eq i
  match a with
  | ⟨0, _⟩ => show k0_off5 i 0 + 1 * 0 = (i 1).val; rw [e]; rfl
  | ⟨1, _⟩ => show k0_off5 i 1 + 1 * y0.val = y0.val; rw [e]; show 0 + 1 * y0.val = _; omega
  | ⟨2, _⟩ => show k0_off5 i 2 + 1 * y1.val = y1.val; rw [e]; show 0 + 1 * y1.val = _; omega

/-- The accumulator. -/
theorem read12a (hi : (i 1).val = 0) : M12.view.read (Elt Ideal) (out12a (F := Ideal) c i M2 M3 M4 M5 M6 M9 M10 M11 M12 (h2.unread X2) (h3.unread X3) (h4.unread X4) (h5.unread X5) (h6.unread X6) (h9.unread X9) (h10.unread X10) (h12.unread X12))
    = prod i X2 X3 X4 X5 X6 X9 X10 := by
  unfold out12a
  rw [dif_pos ((v7323_iff i).mpr hi), View.read_writes_full, pay783_eq, r455_eq, v7319_eq]

theorem read12 : M12.view.read (Elt Ideal) (out12 (F := Ideal) c i M2 M3 M4 M5 M6 M9 M10 M11 M12 (h2.unread X2) (h3.unread X3) (h4.unread X4) (h5.unread X5) (h6.unread X6) (h9.unread X9) (h10.unread X10) (h12.unread X12))
    = y12 i X12 (prod i X2 X3 X4 X5 X6 X9 X10) := by
  unfold out12 y12
  by_cases hi : (i 1).val = 0
  · rw [dif_neg (fun h => (v7326_iff i).mp h hi), if_pos hi]
    exact read12a c i M2 h2 M3 h3 M4 h4 M5 h5 M6 h6 M9 h9 M10 h10 M11 M12 h12 X2 X3 X4 X5 X6 X9 X10 X12 hi
  · rw [dif_pos ((v7326_iff i).mpr hi), if_neg hi, View.read_writes_full, pay784_eq, r455_eq, v7319_eq, View.readAt_full]
    unfold out12a
    rw [dif_neg (fun h => hi ((v7323_iff i).mp h)), h12.read_unread]

theorem read7 : M7.view.read (Elt Ideal) (out7 (F := Ideal) c i M2 M3 M4 M5 M6 M7 M9 M10 M11 M12 (h2.unread X2) (h3.unread X3) (h4.unread X4) (h5.unread X5) (h6.unread X6) (h7.unread X7) (h9.unread X9) (h10.unread X10) (h12.unread X12))
    = if (i 1).val = 11 then y12 i X12 (prod i X2 X3 X4 X5 X6 X9 X10) else X7 := by
  unfold out7
  by_cases hc : k0_cond5 i = 1#1
  · rw [dif_pos hc, if_pos ((cond5_iff i).mp hc), View.read_writes_full, pay1_eq, v7330_1_out, View.readAt_full, read12]
  · rw [dif_neg hc, if_neg (fun h => hc ((cond5_iff i).mpr h)), h7.read_unread]

end

end Cert.KernelIdeal.Run

end
-- ==== Proof.KernelIdeal.Traj.lean ====
/-
  What the scratch holds from point to point. Point `n` is column block `n / 12`, group `n % 12`. The five inputs' blocks at
  the points are any sequences `B0 … B4` here. Group `g`'s rotated rows `xrAt g` are made at point `g` and kept in slot `g`;
  point `n`'s product is `pAt n`, and the accumulator after it, `accAt n`, starts over at each column block.
-/
module

public import proofs.«01_k».proof.Proof.KernelIdeal.Step

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable (B0 : ℕ → S256x1024.Idx → EReal) (B1 : ℕ → S1x1x1024.Idx → EReal) (B2 : ℕ → S2x8x128.Idx → BitVec 32)
  (B3 : ℕ → S512x512.Idx → BitVec 8) (B4 : ℕ → S1x1x512.Idx → EReal)

/-- Group `g`'s rotated rows. -/
def xrAt (g : ℕ) : S256x1024.Idx → EReal := rotBlk (B0 g) (B1 g) hm

/-- Point `n`'s product. -/
def pAt (n : ℕ) : S256x512.Idx → EReal := pm (xrAt B0 B1 (n % 12)) (wdec (B2 n) (B3 n) (B4 n))

/-- The accumulator after point `n`. -/
def accAt : ℕ → S256x512.Idx → EReal
  | 0 => pAt B0 B1 B2 B3 B4 0
  | n + 1 => if (n + 1) % 12 = 0 then pAt B0 B1 B2 B3 B4 (n + 1) else fun y => accAt n y + pAt B0 B1 B2 B3 B4 (n + 1) y

theorem accAt_start (n : ℕ) (h : n % 12 = 0) : accAt B0 B1 B2 B3 B4 n = pAt B0 B1 B2 B3 B4 n := by
  cases n with
  | zero => rfl
  | succ n => unfold accAt; rw [if_pos h]

theorem accAt_next (n : ℕ) (h : n % 12 ≠ 0) :
    accAt B0 B1 B2 B3 B4 n = fun y => accAt B0 B1 B2 B3 B4 (n - 1) y + pAt B0 B1 B2 B3 B4 n y := by
  cases n with
  | zero => exact absurd rfl h
  | succ n => conv_lhs => unfold accAt
              rw [if_neg h]; rfl

/-- The accumulator at the last group is the sum of the column block's twelve products. -/
theorem accAt_sum (q : ℕ) : ∀ k : ℕ, k < 12 → ∀ y, accAt B0 B1 B2 B3 B4 (12 * q + k) y = ∑ g ∈ Finset.range (k + 1), pAt B0 B1 B2 B3 B4 (12 * q + g) y
  | 0, _, y => by rw [accAt_start _ _ _ _ _ _ (by omega)]; simp
  | k + 1, h, y => by
    rw [accAt_next _ _ _ _ _ _ (by omega), Finset.sum_range_succ, ← accAt_sum q k (by omega) y]
    rfl

/-- What the scratch holds before point `n`. -/
structure Inv (n : ℕ) (X9 : S12x256x1024.Idx → EReal) (X10 : S256x256.Idx → EReal) (X12 : S256x512.Idx → EReal) : Prop where
  slots : ∀ g : Fin 12, g.val < n → ∀ u v, X9 (ix3 (n0 := 12) (n1 := 256) (n2 := 1024) g u v) = xrAt B0 B1 g.val (ix2 (n0 := 256) (n1 := 1024) u v)
  mat : 0 < n → X10 = hm
  acc : n % 12 ≠ 0 → X12 = accAt B0 B1 B2 B3 B4 (n - 1)

theorem Inv.init (X9 X10 X12) : Inv B0 B1 B2 B3 B4 0 X9 X10 X12 :=
  ⟨fun _ h => absurd h (Nat.not_lt_zero _), fun h => absurd h (lt_irrefl _), fun h => absurd rfl h⟩

variable {B0 B1 B2 B3 B4}
variable {n : ℕ} {X9 : S12x256x1024.Idx → EReal} {X10 : S256x256.Idx → EReal} {X12 : S256x512.Idx → EReal}
  (H : Inv B0 B1 B2 B3 B4 n X9 X10 X12) (i : grid0.Coords) (hi0 : (i 0).val = n / 12) (hi1 : (i 1).val = n % 12)

include H hi0 hi1

theorem Inv.y10_eq : y10 i X10 = hm := by
  unfold y10
  by_cases h : (i 0).val = 0 ∧ (i 1).val = 0
  · rw [if_pos h]
  · rw [if_neg h]
    exact H.mat (by omega)

theorem Inv.rot_eq (hn : n < 12) : rotBlk (B0 n) (B1 n) (y10 i X10) = xrAt B0 B1 n := by
  rw [H.y10_eq i hi0 hi1]; rfl

theorem Inv.slots_next (g : Fin 12) (hg : g.val < n + 1) (u v) :
    st9 i X9 (B0 n) (B1 n) X10 (ix3 (n0 := 12) (n1 := 256) (n2 := 1024) g u v) = xrAt B0 B1 g.val (ix2 (n0 := 256) (n1 := 1024) u v) := by
  have hg12 := g.isLt
  show (if (i 0).val = 0 ∧ g.val = (i 1).val then rotBlk (B0 n) (B1 n) (y10 i X10) (ix2 (n0 := 256) (n1 := 1024) u v)
    else X9 (ix3 (n0 := 12) (n1 := 256) (n2 := 1024) g u v)) = _
  by_cases h : (i 0).val = 0 ∧ g.val = (i 1).val
  · rw [if_pos h, H.y10_eq i hi0 hi1]
    have : g.val = n := by omega
    rw [this]; rfl
  · rw [if_neg h]
    exact H.slots g (by omega) u v

theorem Inv.slot_eq : slotOf i (st9 i X9 (B0 n) (B1 n) X10) = xrAt B0 B1 (n % 12) := by
  funext y
  idx_vars y
  unfold slotOf
  have h1 := (i 1).isLt
  refine (H.slots_next i hi0 hi1 (i 1) (by show (i 1).val < n + 1; rw [hi1]; have := Nat.mod_le n 12; omega) _ _).trans ?_
  rw [show ((i 1 : Fin 12) : ℕ) = n % 12 from hi1]
  rfl

theorem Inv.acc_eq : y12 i X12 (prod i (B0 n) (B1 n) (B2 n) (B3 n) (B4 n) X9 X10) = accAt B0 B1 B2 B3 B4 n := by
  unfold y12 prod
  rw [H.slot_eq i hi0 hi1]
  by_cases h : (i 1).val = 0
  · rw [if_pos h, accAt_start _ _ _ _ _ n (by omega)]; rfl
  · rw [if_neg h, accAt_next _ _ _ _ _ n (by omega), H.acc (by omega)]; rfl

/-- The invariant steps. -/
theorem Inv.next : Inv B0 B1 B2 B3 B4 (n + 1) (st9 i X9 (B0 n) (B1 n) X10) (y10 i X10)
    (y12 i X12 (prod i (B0 n) (B1 n) (B2 n) (B3 n) (B4 n) X9 X10)) :=
  ⟨fun g hg u v => H.slots_next i hi0 hi1 g hg u v, fun _ => H.y10_eq i hi0 hi1, fun _ => H.acc_eq i hi0 hi1⟩

end Cert.KernelIdeal.Run

end
-- ==== Proof.KernelIdeal.Track.lean ====
/-
  The whole run of the kernel with its values: the body at every point keeps the invariant of Traj.lean in the scratch, leaves the
  accumulator in the first result's window at a column block's last group, and the group's rotated rows in the second
  result's window at the first column block; so every run of the program ends with the arrays the pipeline writes at
  the blocks written back.
-/
module

public import proofs.«01_k».proof.Proof.KernelIdeal.Traj
public import proofs.«01_k».proof.Proof.Gen.KernelIdeal.Launch
public import Idealize.ShloMosaic.Lib.Pipeline.Value
public import Idealize.ShloMosaic.Lib.Pipeline.TableIdle

@[expose] public section

set_option maxRecDepth 16384

noncomputable section

namespace Cert.KernelIdeal.Hand

open Cert.KernelIdeal Cert.KernelIdeal.Gen Cert.KernelIdeal.Run

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- A point of the grid from its number. -/
def pnt (n : ℕ) : Fin cfg0.N := ⟨n % 96, Nat.mod_lt _ (by decide)⟩

theorem pnt_val (t : Fin cfg0.N) : pnt t.val = t := Fin.ext (Nat.mod_eq_of_lt t.isLt)

/-- The inputs' blocks at the points. -/
def B0 (c : Dev nD) (n : ℕ) : S256x1024.Idx → EReal := iblk m c 0 (pnt n)
def B1 (c : Dev nD) (n : ℕ) : S1x1x1024.Idx → EReal := iblk m c 1 (pnt n)
def B2 (c : Dev nD) (n : ℕ) : S2x8x128.Idx → BitVec 32 := iblk m c 2 (pnt n)
def B3 (c : Dev nD) (n : ℕ) : S512x512.Idx → BitVec 8 := iblk m c 3 (pnt n)
def B4 (c : Dev nD) (n : ℕ) : S1x1x512.Idx → EReal := iblk m c 4 (pnt n)

/-- Group `g`'s rotated rows, and the accumulator after point `n`, of this run. -/
def rows (c : Dev nD) (g : ℕ) : S256x1024.Idx → EReal := xrAt (B0 m c) (B1 m c) g
def acc (c : Dev nD) (n : ℕ) : S256x512.Idx → EReal := accAt (B0 m c) (B1 m c) (B2 m c) (B3 m c) (B4 m c) n

/-- The scratch and the generator register before point `n`. -/
def Φat (c : Dev nD) (n : ℕ) : sProp 𝕄 :=
  iprop((∃ X9, ∃ X10, ∃ X12, ⌜Inv (B0 m c) (B1 m c) (B2 m c) (B3 m c) (B4 m c) n X9 X10 X12⌝
      ∗ owns (c : Thread nD τ) (Memref.whole cc0_scratch0) fullShare X9
      ∗ owns (c : Thread nD τ) (Memref.whole cc0_scratch1) fullShare X10
      ∗ (∃ X, owns (c : Thread nD τ) (Memref.whole cc0_scratch2) fullShare X)
      ∗ owns (c : Thread nD τ) (Memref.whole cc0_scratch3) fullShare X12) ∗ (∃ r, prngReg c r))

/-- The proof data on core `c`. -/
def dats (p : Fin 1) (c : Dev nD) : Dat τ (Elt Ideal) Unit ℕ (UR sig nD τ) ℕ (cfgs p) c where
  A w := V m c (Pipeline.arrRef spec0 w)
  after := fun
    | 0, t => iblk m c 0 t
    | 1, t => iblk m c 1 t
    | 2, t => iblk m c 2 t
    | 3, t => iblk m c 3 t
    | 4, t => iblk m c 4 t
    | 5, t => acc m c t.val
    | 6, t => rows m c (min t.val 11)
  Φ t := Φat m c t.val
  q _ := fullShare
  recorded _ _ := True
  owed _ := 0

theorem A_eq (c : Dev nD) (w : Fin cfg0.W) : (dats m 0 c).A w = V m c (Pipeline.arrRef spec0 w) := by dsimp only [dats]

theorem Φ_eq (c : Dev nD) (t : Fin (cfg0.N + 1)) : (dats m 0 c).Φ t = Φat m c t.val := by dsimp only [dats]

/-- The class invariant, conjunct by conjunct. -/
theorem ΦA_eq (c : Dev nD) :
    (Pipeline.ΦA spec0 c : sProp 𝕄)
      = iprop(((∃ X, owns (c : Thread nD τ) (Memref.whole cc0_scratch0) fullShare X)
          ∗ (∃ X, owns (c : Thread nD τ) (Memref.whole cc0_scratch1) fullShare X)
          ∗ (∃ X, owns (c : Thread nD τ) (Memref.whole cc0_scratch2) fullShare X)
          ∗ (∃ X, owns (c : Thread nD τ) (Memref.whole cc0_scratch3) fullShare X)) ∗ (∃ r, prngReg c r)) := by
  unfold Pipeline.ΦA
  rw [scopedRest0_eq]; simp only [owns_whole]; try rfl

theorem Φ_in (c : Dev nD) : Pipeline.ΦA spec0 c ⊢ (Φat m c 0 : sProp 𝕄) := by
  rw [ΦA_eq]; unfold Φat
  iintro ⟨⟨⟨%X9, H9⟩, ⟨%X10, H10⟩, H11, ⟨%X12, H12⟩⟩, Hg⟩
  isplitl [H9 H10 H11 H12]
  · iexists X9; iexists X10; iexists X12
    isplitr [H9 H10 H11 H12]
    · ipureintro; exact Inv.init _ _ _ _ _ _ _ _
    isplitl [H9]; · iexact H9
    isplitl [H10]; · iexact H10
    isplitl [H11]; · iexact H11
    iexact H12
  iexact Hg

theorem Φ_out (c : Dev nD) (n : ℕ) : (Φat m c n : sProp 𝕄) ⊢ Pipeline.ΦA spec0 c := by
  rw [ΦA_eq]; unfold Φat
  iintro ⟨⟨%X9, %X10, %X12, -, H9, H10, H11, H12⟩, Hg⟩
  isplitl [H9 H10 H11 H12]
  · isplitl [H9]; · iexists X9; iexact H9
    isplitl [H10]; · iexists X10; iexact H10
    isplitl [H11]; · iexact H11
    iexists X12; iexact H12
  iexact Hg

/-- A point's coordinates. -/
theorem coords_val : ∀ t : Fin cfg0.N, (grid0.coords t 0).val = t.val / 12 ∧ (grid0.coords t 1).val = t.val % 12 := by decide +kernel

/-- The body at a point, the result windows at any contents. -/
theorem sound_body (c : Dev nD) (t : Fin cfg0.N) (X7 : S256x512.Idx → EReal) (X8 : S256x1024.Idx → EReal) :
    iprop(Φat m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare X7
    ∗ owns (c : Thread nD τ) (st0_6 t) fullShare X8)
    ⊢ wp frame (wpE (defs₀ (F := Ideal)) Variants.none c none) Set.univ (bodyAt0 t) (fun _ =>
      iprop(Φat m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (if t.val % 12 = 11 then acc m c t.val else X7)
    ∗ owns (c : Thread nD τ) (st0_6 t) fullShare (if t.val < 12 then rows m c t.val else X8))) := by
  obtain ⟨hi0, hi1⟩ := coords_val t
  unfold bodyAt0
  conv_lhs => unfold Φat
  iintro ⟨⟨⟨%X9, %X10, %X12, %hI, H9, H10, H11, H12⟩, Hg⟩, HO, H2, H3, H4, H5, H6, H7, H8⟩
  have b0 : (iblk m c 0 t : S256x1024.Idx → EReal) = B0 m c t.val := by unfold B0; rw [pnt_val]
  have b1 : (iblk m c 1 t : S1x1x1024.Idx → EReal) = B1 m c t.val := by unfold B1; rw [pnt_val]
  have b2 : (iblk m c 2 t : S2x8x128.Idx → BitVec 32) = B2 m c t.val := by unfold B2; rw [pnt_val]
  have b3 : (iblk m c 3 t : S512x512.Idx → BitVec 8) = B3 m c t.val := by unfold B3; rw [pnt_val]
  have b4 : (iblk m c 4 t : S1x1x512.Idx → EReal) = B4 m c t.val := by unfold B4; rw [pnt_val]
  have hacc := hI.acc_eq (grid0.coords t) hi0 hi1
  have hrot := hI.rot_eq (grid0.coords t) hi0 hi1
  have hnext := hI.next (grid0.coords t) hi0 hi1
  rw [← b0, ← b1, ← b2, ← b3, ← b4] at hacc
  rw [← b0, ← b1] at hrot
  rw [← b0, ← b1, ← b2, ← b3, ← b4] at hnext
  iapply (body_owns c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) X7 X8 X9 X10 X12
    _ _ _ _ _
    ((congrArg _ (run_7 ..)).trans (read7 ..)) ((congrArg _ (run_8 ..)).trans (read8 ..)) ((congrArg _ (run_9 ..)).trans (read9 ..))
    ((congrArg _ (run_10 ..)).trans (read10 ..)) ((congrArg _ (run_12 ..)).trans (read12 ..)) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  isplitl [H9 H10 H11 H12 Hg]
  · unfold Φat
    isplitl [H9 H10 H11 H12]
    · iexists _; iexists _; iexists _
      isplitr [H9 H10 H11 H12]
      · ipureintro; exact hnext
      isplitl [H9]; · iexact H9
      isplitl [H10]; · iexact H10
      isplitl [H11]; · iexact H11
      iexact H12
    iexact Hg
  isplitl [HO]; · iexact HO
  isplitl [H2]; · iexact H2
  isplitl [H3]; · iexact H3
  isplitl [H4]; · iexact H4
  isplitl [H5]; · iexact H5
  isplitl [H6]; · iexact H6
  isplitl [H7]
  · have e : (if (grid0.coords t 1).val = 11 then y12 (grid0.coords t) X12 (prod (grid0.coords t) (iblk m c 0 t) (iblk m c 1 t) (iblk m c 2 t) (iblk m c 3 t) (iblk m c 4 t) X9 X10) else X7)
        = (if t.val % 12 = 11 then acc m c t.val else X7) := by
      rw [hacc, hi1]; rfl
    rw [← e]; iexact H7
  have e : (if (grid0.coords t 0).val = 0 then rotBlk (iblk m c 0 t) (iblk m c 1 t) (y10 (grid0.coords t) X10) else X8)
      = (if t.val < 12 then rows m c t.val else X8) := by
    by_cases h : t.val < 12
    · rw [if_pos h, if_pos (by rw [hi0]; omega), hrot h]; rfl
    · rw [if_neg h, if_neg (by rw [hi0]; omega)]
  rw [← e]; iexact H8

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- When the result windows are idle and when they are written back. -/
theorem idle5_iff : ∀ t : Fin cfg0.N, cfg0.idle 5 (cfg0.grid.coords t) = decide (t.val % 12 ≠ 11) := by decide +kernel
theorem idle6_iff : ∀ t : Fin cfg0.N, cfg0.idle 6 (cfg0.grid.coords t) = decide (12 ≤ t.val) := by decide +kernel
theorem flush5_iff : ∀ t : Fin cfg0.N, (cfg0.win 5).flush t = decide (t.val % 12 = 11) := by
  intro t; rw [Bool.eq_iff_iff, flush0_5, decide_eq_true_iff]
theorem flush6_iff : ∀ t : Fin cfg0.N, (cfg0.win 6).flush t = decide (t.val < 11 ∨ t.val = 95) := by
  intro t; rw [Pipeline.Window.flush_eq_flushF]; revert t; decide +kernel

/-- The rows are carried through the points that leave them. -/
theorem rows_carry (c : Dev nD) (t : Fin cfg0.N) (h : 12 ≤ t.val) :
    (dats m 0 c).after 6 t = (dats m 0 c).after 6 ⟨t.val - 1, Nat.lt_of_le_of_lt (Nat.sub_le _ _) t.isLt⟩ := by
  show rows m c (min t.val 11) = rows m c (min (t.val - 1) 11)
  congr 1; omega

/-- The second result's window holds nothing of its own block until the last group has been written. -/
theorem fresh6 : ∀ n, n ≤ cfg0.N → cfg0.fresh 6 n = decide (n < 12 ∨ n = 96) :=
  Pipeline.Cfg.fresh_tab cfg0 6 (fun n => decide (n < 12 ∨ n = 96)) (by decide) fun t => by
    have ht : t.val < 96 := t.isLt
    rw [flush6_iff, idle6_iff, Bool.eq_iff_iff]
    simp only [decide_eq_true_eq, Bool.or_eq_true, Bool.and_eq_true]
    omega

/-- The last point finds the last group's rows in the window. -/
theorem rows_last (c : Dev nD) (t : Fin cfg0.N) (h : t.val = 95) (d) :
    (dats m 0 c).before 6 t d = rows m c 11 := by
  rw [(dats m 0 c).before_out_traj 6 rfl (fun _ _ => rfl)
    (fun t _ hi _ => rows_carry m c t (by rw [idle6_iff] at hi; simpa using hi)) t.val t rfl d]
  rw [if_neg]
  · show rows m c (min (t.val - 1) 11) = _
    rw [h]; rfl
  · rw [h, show (cfgs 0).fresh 6 95 = cfg0.fresh 6 95 from rfl, fresh6 95 (by decide)]; decide

/-- What the body leaves in the results' windows is what the pipeline is told it leaves. -/
theorem leaves5 (c : Dev nD) (t : Fin cfg0.N) (d) :
    owns (c : Thread nD τ) (st0_5 t) fullShare (if t.val % 12 = 11 then acc m c t.val else (dats m 0 c).before 5 t d)
      ⊢ ((dats m 0 c).leavesExact 5 t : sProp 𝕄) := by
  unfold Dat.leavesExact
  rw [show (cfgs 0).idle 5 ((cfgs 0).grid.coords t) = _ from idle5_iff t, show ((cfgs 0).win 5).flush t = _ from flush5_iff t]
  by_cases h : t.val % 12 = 11
  · rw [if_pos h, decide_eq_false (not_not_intro h)]; exact .rfl
  · rw [if_neg h, decide_eq_true h, decide_eq_false h]
    iintro H; iexists d; iexact H

theorem leaves6 (c : Dev nD) (t : Fin cfg0.N) (d) :
    owns (c : Thread nD τ) (st0_6 t) fullShare (if t.val < 12 then rows m c t.val else (dats m 0 c).before 6 t d)
      ⊢ ((dats m 0 c).leavesExact 6 t : sProp 𝕄) := by
  unfold Dat.leavesExact
  rw [show (cfgs 0).idle 6 ((cfgs 0).grid.coords t) = _ from idle6_iff t, show ((cfgs 0).win 6).flush t = _ from flush6_iff t]
  by_cases h : t.val < 12
  · rw [if_pos h, decide_eq_false (by omega)]
    show _ ⊢ (owns (c : Thread nD τ) (st0_6 t) fullShare (rows m c (min t.val 11) : S256x1024.Idx → Elt Ideal .bf16) : sProp 𝕄)
    rw [show min t.val 11 = t.val by omega]
  · rw [if_neg h, decide_eq_true (by omega)]
    by_cases h' : t.val = 95
    · rw [decide_eq_true (.inr h'), rows_last m c t h']
      show _ ⊢ (owns (c : Thread nD τ) (st0_6 t) fullShare (rows m c (min t.val 11) : S256x1024.Idx → Elt Ideal .bf16) : sProp 𝕄)
      rw [h']; exact .rfl
    · rw [decide_eq_false (by omega)]
      iintro H; iexists d; iexact H

/-- The body at a point, the results' windows as the pipeline describes them. -/
theorem sound_leaves (c : Dev nD) (t : Fin cfg0.N) (d5 d6) :
    iprop(Φat m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare ((dats m 0 c).before 5 t d5)
    ∗ owns (c : Thread nD τ) (st0_6 t) fullShare ((dats m 0 c).before 6 t d6))
    ⊢ wp frame (wpE (defs₀ (F := Ideal)) Variants.none c none) Set.univ (bodyAt0 t) (fun _ =>
      iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (dats m 0 c).leavesExact 5 t ∗ (dats m 0 c).leavesExact 6 t)) := by
  refine triple_restated (sound_body m c t _ _) rfl .rfl fun _ => ?_
  iintro ⟨HP, HO, H0, H1, H2, H3, H4, H5, H6⟩
  isplitl [HP]; · rw [Φ_eq, Fin.val_succ]; iexact HP
  isplitl [HO]; · iexact HO
  isplitl [H0]; · iexact H0
  isplitl [H1]; · iexact H1
  isplitl [H2]; · iexact H2
  isplitl [H3]; · iexact H3
  isplitl [H4]; · iexact H4
  isplitl [H5]
  · iapply (leaves5 m c t d5); iexact H5
  iapply (leaves6 m c t d6); iexact H6

/-- The library's body obligation. -/
theorem body_obligation (c : Dev nD) :
    BodyObligation (dats m 0 c) (defs₀ (F := Ideal)) Variants.none () Set.univ := fun t => by
  rw [bigSep_W0, bigSep_W0, defs₀_row]
  iintro ⟨HP, HO, ⟨%d0, H0⟩, ⟨%d1, H1⟩, ⟨%d2, H2⟩, ⟨%d3, H3⟩, ⟨%d4, H4⟩, ⟨%d5, H5⟩, ⟨%d6, H6⟩⟩
  iapply (sound_leaves m c t d5 d6)
  rw [before0_0_of m (dats m 0 c) (A_eq m c 0) (fun _ => rfl) t d0, before0_1_of m (dats m 0 c) (A_eq m c 1) (fun _ => rfl) t d1,
    before0_2_of m (dats m 0 c) (A_eq m c 2) (fun _ => rfl) t d2, before0_3_of m (dats m 0 c) (A_eq m c 3) (fun _ => rfl) t d3,
    before0_4_of m (dats m 0 c) (A_eq m c 4) (fun _ => rfl) t d4]
  isplitl [HP]
  · rw [show (Φat m c t.val : sProp 𝕄) = (dats m 0 c).Φ t.castSucc from (Φ_eq m c t.castSucc).symm]; iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters every run of @main terminates, the windows' arrays as the pipeline writes them,
    every other array at its entry contents and every semaphore counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Φ_in m c) (hout := fun c => Φ_out m c _)

end Cert.KernelIdeal.Hand

end
-- ==== Proof.Frames.lean ====
/-
  The three frames: each program terminates with its arguments as they were and every semaphore counter at zero.
-/
module

public import proofs.«01_k».proof.Defs
public import proofs.«01_k».proof.Proof.Kernel.Frame
public import proofs.«01_k».proof.Proof.KernelIdeal.Track
public import proofs.«01_k».proof.Proof.Gen.ReferenceIdeal
public import proofs.«01_k».proof.Proof.Gen.ReferenceIdeal.Run
public import proofs.«01_k».proof.Proof.Gen.Pre_finite_x
public import Idealize.ShloMosaic.Lib.Pipeline.ValueKit

@[expose] public section

set_option maxRecDepth 16384

noncomputable section

namespace Cert

open Idealize.ShloMosaic
open Idealize.ShloMosaic.TcCoe

theorem frame_Kernel : quiescent_Kernel (hKernel := Cert.Kernel.Gen.facts) := fun m g _ =>
  (θ_run _ _ _).mono (fun _ h => ⟨fun c => Cert.Kernel.Hand.final_args h.1 c, h.2⟩) (Cert.Kernel.Hand.run_main m g)

namespace KernelIdeal.Hand

open Cert.KernelIdeal Cert.KernelIdeal.Gen

/-- After the run the five arguments hold what they held at launch. -/
theorem final_args {m : (ℓ : Loc nD τ sig) → Buf (Elt Ideal) ℓ} {r : PUnit × MemSt nD τ sig (Elt Ideal)}
    (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.rest_eq c main_arg0 (Pipeline.mem_restRefs_of main_arg0 (by decide) (by decide))).trans (V_main_arg0 m c),
    (h.rest_eq c main_arg1 (Pipeline.mem_restRefs_of main_arg1 (by decide) (by decide))).trans (V_main_arg1 m c),
    (h.rest_eq c main_arg2 (Pipeline.mem_restRefs_of main_arg2 (by decide) (by decide))).trans (V_main_arg2 m c),
    (h.in_eq c 3 rfl).trans (V_main_arg3 m c),
    (h.rest_eq c main_arg4 (Pipeline.mem_restRefs_of main_arg4 (by decide) (by decide))).trans (V_main_arg4 m c)⟩

end KernelIdeal.Hand

theorem frame_KernelIdeal : quiescent_KernelIdeal (hKernelIdeal := Cert.KernelIdeal.Gen.facts) := fun m g _ =>
  (θ_run _ _ _).mono (fun _ h => ⟨fun c => Cert.KernelIdeal.Hand.final_args h.1 c, h.2⟩) (Cert.KernelIdeal.Hand.run_main m g)

theorem frame_ReferenceIdeal : quiescent_ReferenceIdeal (hReferenceIdeal := Cert.ReferenceIdeal.Gen.facts) := fun m g _ =>
  (θ_run _ _ _).mono (fun _ h => ⟨fun c => (h c).2.2, Idealize.ShloMosaic.sem_eq_zero_of_no_sems (by decide) _⟩) (Cert.ReferenceIdeal.Value.run m g)

end Cert

end
-- ==== Proof.KernelIdeal.Blocks.lean ====
/-
  The inputs' blocks at the points, read off the arguments: what the host operations make of each argument, and where
  each window's block lies in it.
-/
module

public import proofs.«01_k».proof.Proof.KernelIdeal.Track
public import Idealize.ShloMosaic.Lib.Pipeline.ValueKit
public import Idealize.ShloMosaic.Lib.Pointwise
public import Idealize.ShloMosaic.Lib.BitcastConvert
public import Idealize.ShloMosaic.Lib.StableHlo.ReadAt

@[expose] public section

set_option maxRecDepth 16384

noncomputable section

namespace Cert.KernelIdeal.Hand

open Cert.KernelIdeal Cert.KernelIdeal.Gen Cert.KernelIdeal.Run
open Idealize.ShloMosaic Idealize.ShloMosaic.TcCoe Idealize.ShloMosaic.Tactic

/-- Where the windows' blocks lie. -/
theorem index0 : ∀ t : Fin cfg0.N, win0_0.index t 0 = 0 ∧ win0_0.index t 1 = min t.val 11 := by decide +kernel
theorem index1 : ∀ t : Fin cfg0.N, win0_1.index t 0 = t.val % 12 ∧ win0_1.index t 1 = 0 ∧ win0_1.index t 2 = 0 := by decide +kernel
theorem index2 : ∀ t : Fin cfg0.N, win0_2.index t 0 = 0 ∧ win0_2.index t 1 = 0 ∧ win0_2.index t 2 = 0 := by decide +kernel
theorem index3 : ∀ t : Fin cfg0.N, win0_3.index t 0 = t.val % 12 ∧ win0_3.index t 1 = t.val / 12 := by decide +kernel
theorem index4 : ∀ t : Fin cfg0.N, win0_4.index t 0 = t.val % 12 ∧ win0_4.index t 1 = 0 ∧ win0_4.index t 2 = t.val / 12 := by decide +kernel
theorem index5 : ∀ t : Fin cfg0.N, win0_5.index t 0 = 0 ∧ win0_5.index t 1 = t.val / 12 := by decide +kernel
theorem index6 : ∀ t : Fin cfg0.N, win0_6.index t 0 = 0 ∧ win0_6.index t 1 = min t.val 11 := by decide +kernel

variable (m : (ℓ : Loc nD τ sig) → Buf (Elt Ideal) ℓ) (c : Dev nD)

/-- The arguments, as arrays. -/
abbrev a0 : S2x128x12288.Idx → EReal := m ((c.tc : Thread nD τ).loc main_arg0)
abbrev a1 : S12288.Idx → BitVec 8 := m ((c.tc : Thread nD τ).loc main_arg1)
abbrev a2 : S256x2.Idx → BitVec 16 := m ((c.tc : Thread nD τ).loc main_arg2)
abbrev a3 : S6144x4096.Idx → BitVec 8 := m ((c.tc : Thread nD τ).loc main_arg3)
abbrev a4 : S12x4096.Idx → EReal := m ((c.tc : Thread nD τ).loc main_arg4)

/-- The place of one of a word's two parts. -/
theorem snoc_two (i : Fin 256) (k : Fin 2) :
    splits_S256_w32_S256x2_w16.snoc (ix1 (n0 := 256) i) k = ix2 (n0 := 256) (n1 := 2) i k := by
  funext a
  apply Fin.ext
  match a with
  | ⟨0, _⟩ => rfl
  | ⟨1, _⟩ => rfl

/-- What the host operations make, read at an index. -/
theorem v0_at (u : Fin 256) (j : Fin 12288) :
    V m c main_v0 (ix2 (n0 := 256) (n1 := 12288) u j) = a0 m c (ix3 (n0 := 2) (n1 := 128) (n2 := 12288) ⟨u.val / 128, by omega⟩ ⟨u.val % 128, by omega⟩ j) := by
  unfold V
  after_reads_at
theorem v3_at (g : Fin 12) (k : Fin 1024) :
    V m c main_v3 (ix3 (n0 := 12) (n1 := 1) (n2 := 1024) g 0 k) = (((a1 m c (ix1 (n0 := 12288) ⟨g.val * 1024 + k.val, by omega⟩)).toInt : ℝ) : EReal) := by
  unfold V
  after_reads_at
  show (((BitVec.signExtend 32 _).toInt : ℝ) : EReal) = _
  rw [BitVec.toInt_signExtend_of_le (by decide)]
theorem v6_at (h : Fin 2) (s : Fin 8) (l : Fin 128) :
    V m c main_v6 (ix3 (n0 := 2) (n1 := 8) (n2 := 128) h s l)
      = (a2 m c (ix2 (n0 := 256) (n1 := 2) ⟨h.val * 128 + l.val, by omega⟩ 1) ++ a2 m c (ix2 (n0 := 256) (n1 := 2) ⟨h.val * 128 + l.val, by omega⟩ 0) : BitVec 32) := by
  unfold V
  after_reads_at
  rw [snoc_two, snoc_two]
theorem v8_at (g : Fin 12) (n : Fin 4096) :
    V m c main_v8 (ix3 (n0 := 12) (n1 := 1) (n2 := 4096) g 0 n) = a4 m c (ix2 (n0 := 12) (n1 := 4096) g n) := by
  unfold V
  after_reads_at

/-- The blocks at the points, read at an index. -/
theorem B0_at (n : ℕ) (hn : n < 12) (u : Fin 256) (k : Fin 1024) :
    B0 m c n (ix2 (n0 := 256) (n1 := 1024) u k)
      = a0 m c (ix3 (n0 := 2) (n1 := 128) (n2 := 12288) ⟨u.val / 128, by omega⟩ ⟨u.val % 128, by omega⟩ ⟨n * 1024 + k.val, by omega⟩) := by
  rw [← v0_at m c u ⟨n * 1024 + k.val, by omega⟩]
  unfold B0
  have h := index0 (pnt n)
  have hp : (pnt n).val = n % 96 := rfl
  rw [hp] at h
  blk_ext [iblk]
  all_goals omega
theorem B1_at (n : ℕ) (k : Fin 1024) :
    B1 m c n (ix3 (n0 := 1) (n1 := 1) (n2 := 1024) 0 0 k)
      = (((a1 m c (ix1 (n0 := 12288) ⟨(n % 12) * 1024 + k.val, by omega⟩)).toInt : ℝ) : EReal) := by
  rw [← v3_at m c ⟨n % 12, by omega⟩ k]
  unfold B1
  have h := index1 (pnt n)
  have hp : (pnt n).val = n % 96 := rfl
  rw [hp] at h
  blk_ext [iblk]
  all_goals omega
theorem B2_at (n : ℕ) (h : Fin 2) (s : Fin 8) (l : Fin 128) :
    B2 m c n (ix3 (n0 := 2) (n1 := 8) (n2 := 128) h s l)
      = (a2 m c (ix2 (n0 := 256) (n1 := 2) ⟨h.val * 128 + l.val, by omega⟩ 1) ++ a2 m c (ix2 (n0 := 256) (n1 := 2) ⟨h.val * 128 + l.val, by omega⟩ 0) : BitVec 32) := by
  rw [← v6_at m c h s l]
  unfold B2
  have h := index2 (pnt n)
  blk_ext [iblk]
  all_goals omega
theorem B3_at (n : ℕ) (hn : n < 96) (r v : Fin 512) :
    B3 m c n (ix2 (n0 := 512) (n1 := 512) r v)
      = a3 m c (ix2 (n0 := 6144) (n1 := 4096) ⟨(n % 12) * 512 + r.val, by omega⟩ ⟨n / 12 * 512 + v.val, by omega⟩) := by
  rw [show a3 m c = V m c main_arg3 from (V_main_arg3 m c).symm]
  unfold B3
  have h := index3 (pnt n)
  have hp : (pnt n).val = n % 96 := rfl
  rw [hp] at h
  blk_ext [iblk]
  all_goals omega
theorem B4_at (n : ℕ) (hn : n < 96) (v : Fin 512) :
    B4 m c n (ix3 (n0 := 1) (n1 := 1) (n2 := 512) 0 0 v)
      = a4 m c (ix2 (n0 := 12) (n1 := 4096) ⟨n % 12, by omega⟩ ⟨n / 12 * 512 + v.val, by omega⟩) := by
  rw [← v8_at m c ⟨n % 12, by omega⟩ ⟨n / 12 * 512 + v.val, by omega⟩]
  unfold B4
  have h := index4 (pnt n)
  have hp : (pnt n).val = n % 96 := rfl
  rw [hp] at h
  blk_ext [iblk]
  all_goals omega

end Cert.KernelIdeal.Hand

end
-- ==== Proof.Hadamard.lean ====
/-
  The 1024 × 1024 Sylvester-Hadamard matrix is the Kronecker product of the 4 × 4 one and the 256 × 256 one; so the four
  256-column chunks times the small matrix, then the four-point butterfly, are the whole product. The butterfly's
  differences are regrouped, which needs finite entries.
-/
module

public import proofs.«01_k».proof.Proof.KernelIdeal.Rotate

@[expose] public section

set_option maxRecDepth 16384

noncomputable section

namespace Cert.Hadamard

open Idealize.ShloMosaic

/-- The sign word of a bit pattern: 1 for an even number of set bits, -1 for an odd one. -/
def sgnw (w : BitVec 32) : BitVec 32 :=
  IntOp.subi (1#32) (IntOp.muli (2#32) (IntOp.andi (IntOp.ctpop w) 1#32))

/-- The sign as an integer, of a number below 1024. -/
def sgn (n : ℕ) : ℤ := (sgnw (BitVec.ofNat 32 n)).toInt

/-- The matrix's entry at row `k`, column `i`. -/
def H (k i : ℕ) : ℝ := ((sgn (k &&& i) : ℤ) : ℝ)

theorem H_word (k i : ℕ) :
    (((sgnw (IntOp.andi (BitVec.ofNat 32 k) (BitVec.ofNat 32 i))).toInt : ℝ) : EReal) = ((H k i : ℝ) : EReal) := by
  unfold H sgn
  rw [show IntOp.andi (BitVec.ofNat 32 k) (BitVec.ofNat 32 i) = BitVec.ofNat 32 (k &&& i) from (BitVec.ofNat_and ..).symm]

theorem sgn_split : ∀ (p : Fin 4) (q : Fin 256), sgn (256 * p.val + q.val) = sgn p.val * sgn q.val := by decide +kernel

theorem and_split (a b : Fin 4) (k v : Fin 256) :
    (256 * a.val + k.val) &&& (256 * b.val + v.val) = 256 * (a.val &&& b.val) + (k.val &&& v.val) := by
  have h1 : ((256 * a.val + k.val) &&& (256 * b.val + v.val)) / 2 ^ 8 = a.val &&& b.val := by
    rw [Nat.and_div_two_pow]; congr 1 <;> omega
  have h2 : ((256 * a.val + k.val) &&& (256 * b.val + v.val)) % 2 ^ 8 = k.val &&& v.val := by
    rw [Nat.and_mod_two_pow]; congr 1 <;> omega
  omega

/-- The matrix is the Kronecker product. -/
theorem H_split (a b : Fin 4) (k v : Fin 256) :
    H (256 * a.val + k.val) (256 * b.val + v.val) = H a.val b.val * H k.val v.val := by
  unfold H
  have hp : a.val &&& b.val < 4 := Nat.and_lt_two_pow (n := 2) _ b.isLt
  have hq : k.val &&& v.val < 256 := Nat.and_lt_two_pow (n := 8) _ v.isLt
  rw [and_split, show (256 * (a.val &&& b.val) + (k.val &&& v.val)) = 256 * (⟨_, hp⟩ : Fin 4).val + (⟨_, hq⟩ : Fin 256).val from rfl,
    sgn_split]
  push_cast
  rfl

theorem H4 : ∀ a b : Fin 4, sgn (a.val &&& b.val) = (![![1, 1, 1, 1], ![1, -1, 1, -1], ![1, 1, -1, -1], ![1, -1, -1, 1]] : Fin 4 → Fin 4 → ℤ) a b := by
  decide +kernel

/-- The butterfly, at real entries. -/
theorem bfly_real (b : Fin 4) (t : Fin 4 → ℝ) :
    Cert.KernelIdeal.Run.bfly b.val (fun a => ((t a : ℝ) : EReal)) = ((∑ a : Fin 4, t a * H a.val b.val : ℝ) : EReal) := by
  have h : ∀ a : Fin 4, H a.val b.val = (((![![1, 1, 1, 1], ![1, -1, 1, -1], ![1, 1, -1, -1], ![1, -1, -1, 1]] : Fin 4 → Fin 4 → ℤ) a b : ℤ) : ℝ) := fun a => by
    unfold H; rw [H4]
  simp only [h, Fin.sum_univ_four]
  match b with
  | 0 => show ((t 0 : EReal) + t 1) + (t 2 + t 3) = _
         simp only [← EReal.coe_add]; congr 1; simp; ring
  | 1 => show ((t 0 : EReal) - t 1) + (t 2 - t 3) = _
         simp only [← EReal.coe_add, ← EReal.coe_sub]; congr 1; simp; ring
  | 2 => show ((t 0 : EReal) + t 1) - (t 2 + t 3) = _
         simp only [← EReal.coe_add, ← EReal.coe_sub]; congr 1; simp; ring
  | 3 => show ((t 0 : EReal) - t 1) - (t 2 - t 3) = _
         simp only [← EReal.coe_sub]; congr 1; simp; ring

theorem coe_sum {ι : Type} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- The chunks' products and the butterfly are the whole product. -/
theorem bfly_rot (z : Fin 1024 → EReal) (hz : ∀ k, ∃ r : ℝ, z k = (r : EReal)) (i : Fin 1024) :
    Cert.KernelIdeal.Run.bfly (i.val / 256)
        (fun a => ∑ k : Fin 256, z ⟨256 * a.val + k.val, by omega⟩ * ((H k.val (i.val % 256) : ℝ) : EReal))
      = ∑ k : Fin 1024, z k * ((H k.val i.val : ℝ) : EReal) := by
  choose r hr using hz
  simp only [hr, ← EReal.coe_mul, ← coe_sum]
  rw [bfly_real ⟨i.val / 256, by omega⟩]
  congr 1
  have e : ∑ k : Fin 1024, r k * H k.val i.val = ∑ a : Fin 4, ∑ k : Fin 256, r ⟨256 * a.val + k.val, by omega⟩ * H (256 * a.val + k.val) i.val := by
    rw [← Finset.sum_product', ← (finProdFinEquiv (m := 4) (n := 256)).sum_comp]
    refine Finset.sum_congr rfl fun p _ => ?_
    have : (finProdFinEquiv (m := 4) (n := 256) p : Fin 1024) = ⟨256 * p.1.val + p.2.val, by omega⟩ := Fin.ext (by
      show p.2.val + 256 * p.1.val = 256 * p.1.val + p.2.val; omega)
    rw [this]
  rw [e]
  refine Finset.sum_congr rfl fun a _ => ?_
  rw [Finset.sum_mul]
  refine Finset.sum_congr rfl fun k _ => ?_
  have := H_split a ⟨i.val / 256, by omega⟩ k ⟨i.val % 256, Nat.mod_lt _ (by decide)⟩
  rw [show 256 * (⟨i.val / 256, by omega⟩ : Fin 4).val + (⟨i.val % 256, Nat.mod_lt _ (by decide)⟩ : Fin 256).val = i.val from Nat.div_add_mod _ _] at this
  rw [this]
  ring

end Cert.Hadamard

end
-- ==== Proof.Spec.lean ====
/-
  What both programs compute, over the extended reals, as sums over the arguments: the signed rows, their rotation by the
  Hadamard matrix, the decoded weights, and the product.
-/
module

public import proofs.«01_k».proof.Proof.Hadamard

@[expose] public section

set_option maxRecDepth 16384

noncomputable section

namespace Cert.Spec

open Idealize.ShloMosaic

variable (x : (⟨3, ![2, 128, 12288]⟩ : Shape).Idx → EReal) (s : (⟨1, ![12288]⟩ : Shape).Idx → BitVec 8)
  (cb : (⟨2, ![256, 2]⟩ : Shape).Idx → BitVec 16) (cd : (⟨2, ![6144, 4096]⟩ : Shape).Idx → BitVec 8)
  (sc : (⟨2, ![12, 4096]⟩ : Shape).Idx → EReal)

/-- Row `r`'s entry `k` of group `g`, signed. -/
def xsg (r : Fin 256) (g : Fin 12) (k : Fin 1024) : EReal :=
  x (ix3 (n0 := 2) (n1 := 128) (n2 := 12288) ⟨r.val / 128, by omega⟩ ⟨r.val % 128, by omega⟩ ⟨g.val * 1024 + k.val, by omega⟩)
    * (((s (ix1 (n0 := 12288) ⟨g.val * 1024 + k.val, by omega⟩)).toInt : ℝ) : EReal)

/-- Row `r`'s rotated entry `i` of group `g`. -/
def rot (r : Fin 256) (g : Fin 12) (i : Fin 1024) : EReal :=
  (∑ k : Fin 1024, xsg x s r g k * ((Hadamard.H k.val i.val : ℝ) : EReal)) * Ideal.ofBits .f32 0x3D000000#32

/-- The decoded weight of group `g`, row `k`, column `n`. -/
def wt (g : Fin 12) (k : Fin 1024) (n : Fin 4096) : EReal :=
  Ideal.ofBits .bf16 (cb (ix2 (n0 := 256) (n1 := 2)
      (cd (ix2 (n0 := 6144) (n1 := 4096) ⟨g.val * 512 + k.val / 2, by omega⟩ n)).toFin ⟨k.val % 2, by omega⟩))
    * sc (ix2 (n0 := 12) (n1 := 4096) g n)

/-- The product's entry at row `r`, column `n`. -/
def out (r : Fin 256) (n : Fin 4096) : EReal :=
  ∑ g : Fin 12, ∑ k : Fin 1024, rot x s r g k * wt cb cd sc g k n

end Cert.Spec

end
-- ==== Proof.KernelIdeal.Arrays.lean ====
/-
  The kernel's two result arrays after the run are the arrays of Spec.lean.
-/
module

public import proofs.«01_k».proof.Proof.KernelIdeal.Blocks
public import proofs.«01_k».proof.Proof.Spec

@[expose] public section

set_option maxRecDepth 16384

noncomputable section

namespace Cert.KernelIdeal.Hand

open Cert.KernelIdeal Cert.KernelIdeal.Gen Cert.KernelIdeal.Run
open Idealize.ShloMosaic Idealize.ShloMosaic.TcCoe Idealize.ShloMosaic.Tactic

variable (m : (ℓ : Loc nD τ sig) → Buf (Elt Ideal) ℓ) (c : Dev nD)

/-- Every entry of the rows is finite. -/
def Finite : Prop := ∀ i, ∃ r : ℝ, a0 m c i = (r : EReal)

/-- The small Hadamard matrix, read at an index. -/
theorem hm_at (k v : Fin 256) : hm (ix2 (n0 := 256) (n1 := 256) k v) = ((Hadamard.H k.val v.val : ℝ) : EReal) := by
  rw [← Hadamard.H_word]
  unfold hm k0_pay18
  pointwise
  rfl

theorem xsg_finite (hx : Finite m c) (r : Fin 256) (g : Fin 12) (k : Fin 1024) :
    ∃ y : ℝ, Spec.xsg (a0 m c) (a1 m c) r g k = (y : EReal) := by
  obtain ⟨y, hy⟩ := hx (ix3 (n0 := 2) (n1 := 128) (n2 := 12288) ⟨r.val / 128, by omega⟩ ⟨r.val % 128, by omega⟩ ⟨g.val * 1024 + k.val, by omega⟩)
  unfold Spec.xsg
  rw [hy]
  exact ⟨_, (EReal.coe_mul _ _).symm⟩

/-- A group's rotated rows. -/
theorem rows_at (hx : Finite m c) (g : Fin 12) (u : Fin 256) (i : Fin 1024) :
    rows m c g.val (ix2 (n0 := 256) (n1 := 1024) u i) = Spec.rot (a0 m c) (a1 m c) u g i := by
  unfold Spec.rot
  rw [← Hadamard.bfly_rot _ (fun k => xsg_finite m c hx u g k) i]
  show bfly (i.val / 256) (fun a => tcol (B0 m c g.val) (B1 m c g.val) hm a u ⟨i.val % 256, _⟩) * _ = _
  congr 2
  funext a
  unfold tcol Spec.xsg
  refine Finset.sum_congr rfl fun k _ => ?_
  rw [B0_at m c g.val g.isLt, B1_at, hm_at]
  simp only [Nat.mod_eq_of_lt g.isLt]

/-- The word's half for a code. -/
theorem word_half (cb : S256x2.Idx → BitVec 16) (b : Fin 256) (k : Fin 2) :
    (cb (ix2 (n0 := 256) (n1 := 2) b 1) ++ cb (ix2 (n0 := 256) (n1 := 2) b 0) : BitVec 32).extractLsb' (16 * k.val) 16 = cb (ix2 (n0 := 256) (n1 := 2) b k) := by
  generalize hl : cb (ix2 (n0 := 256) (n1 := 2) b 0) = lo
  generalize hh : cb (ix2 (n0 := 256) (n1 := 2) b 1) = hi
  match k with
  | 0 => rw [show (0 : Fin 2) = 0 from rfl] ; rw [hl]; exact BitVec.extractLsb'_append_eq_right
  | 1 => rw [hh]; exact BitVec.extractLsb'_append_eq_left

theorem wdec_at (n : ℕ) (hn : n < 96) (k : Fin 1024) (v : Fin 512) :
    wdec (B2 m c n) (B3 m c n) (B4 m c n) (ix2 (n0 := 1024) (n1 := 512) k v)
      = Spec.wt (a2 m c) (a3 m c) (a4 m c) ⟨n % 12, by omega⟩ k ⟨n / 12 * 512 + v.val, by omega⟩ := by
  show Ideal.ofBits .bf16 ((word (B2 m c n) (B3 m c n (ix2 (n0 := 512) (n1 := 512) ⟨k.val / 2, _⟩ v)) (k.val / 2)).extractLsb' (16 * (k.val % 2)) 16)
    * B4 m c n (ix3 (n0 := 1) (n1 := 1) (n2 := 512) 0 0 v) = _
  rw [B3_at m c n hn, B4_at m c n hn]
  unfold word Spec.wt
  rw [B2_at]
  generalize a3 m c _ = b
  have hb := b.isLt
  rw [show (⟨(⟨b.toNat / 128, by omega⟩ : Fin 2).val * 128 + (⟨b.toNat % 128, by omega⟩ : Fin 128).val, by omega⟩ : Fin 256) = b.toFin from
    Fin.ext (by show b.toNat / 128 * 128 + b.toNat % 128 = b.toNat; omega)]
  rw [word_half (a2 m c) b.toFin ⟨k.val % 2, by omega⟩]

/-- A column block's accumulator at its last group. -/
theorem acc_at (hx : Finite m c) (q : Fin 8) (u : Fin 256) (v : Fin 512) :
    acc m c (12 * q.val + 11) (ix2 (n0 := 256) (n1 := 512) u v)
      = Spec.out (a0 m c) (a1 m c) (a2 m c) (a3 m c) (a4 m c) u ⟨q.val * 512 + v.val, by omega⟩ := by
  unfold acc Spec.out
  rw [accAt_sum _ _ _ _ _ q.val 11 (by decide), Finset.sum_range]
  refine Finset.sum_congr rfl fun g _ => ?_
  show ∑ k : Fin 1024, xrAt (B0 m c) (B1 m c) ((12 * q.val + g.val) % 12) (ix2 (n0 := 256) (n1 := 1024) u k)
    * wdec (B2 m c (12 * q.val + g.val)) (B3 m c (12 * q.val + g.val)) (B4 m c (12 * q.val + g.val)) (ix2 (n0 := 1024) (n1 := 512) k v) = _
  refine Finset.sum_congr rfl fun k _ => ?_
  have e1 : (12 * q.val + g.val) % 12 = g.val := by omega
  have e2 : (12 * q.val + g.val) / 12 = q.val := by omega
  rw [wdec_at m c _ (by omega)]
  simp only [e1, e2]
  rw [show xrAt (B0 m c) (B1 m c) g.val (ix2 (n0 := 256) (n1 := 1024) u k) = _ from rows_at m c hx g u k]

/-- The product's array. -/
def yArr : S256x4096.Idx → EReal := fun y => Spec.out (a0 m c) (a1 m c) (a2 m c) (a3 m c) (a4 m c) (y 0) (y 1)
/-- The rotated rows' array. -/
def xArr : S256x12288.Idx → EReal := fun y =>
  Spec.rot (a0 m c) (a1 m c) (y 0) ⟨(y 1).val / 1024, by have := (y 1).isLt; change (y 1).val < 12288 at this; omega⟩ ⟨(y 1).val % 1024, Nat.mod_lt _ (by decide)⟩

theorem y_final (hx : Finite m c) : (dats m 0 c).arrAt 5 (cfgs 0).N = yArr m c := by
  refine (dats m 0 c).arrAt_eq_of_covers 5 _ (by decide +kernel) fun t hf y => ?_
  have ht : t.val < 96 := t.isLt
  have hm : t.val % 12 = 11 := of_decide_eq_true ((flush5_iff t).symm.trans hf)
  have h := index5 t
  blk_simp
  generalize hz : (win0_5.blk t).view.emb y = z
  have hz0 : (z 0 : ℕ) = (y 0).val := by rw [← hz]; blk_simp; omega
  have hz1 : (z 1 : ℕ) = t.val / 12 * 512 + (y 1).val := by rw [← hz]; blk_simp; omega
  obtain ⟨u, v, rfl⟩ : ∃ (u : Fin 256) (v : Fin 512), y = ix2 (n0 := 256) (n1 := 512) u v := ⟨y 0, y 1, eq_ix2 y⟩
  show acc m c t.val (ix2 (n0 := 256) (n1 := 512) u v) = _
  have e := acc_at m c hx ⟨t.val / 12, by omega⟩ u v
  rw [show 12 * (t.val / 12) + 11 = t.val by omega] at e
  rw [e]
  unfold yArr
  congr 1
  · exact Fin.ext hz0.symm
  · exact Fin.ext hz1.symm

theorem x_final (hx : Finite m c) : (dats m 0 c).arrAt 6 (cfgs 0).N = xArr m c := by
  refine (dats m 0 c).arrAt_eq_of_covers 6 _ (by decide +kernel) fun t hf y => ?_
  have ht : t.val < 96 := t.isLt
  have h := index6 t
  blk_simp
  generalize hz : (win0_6.blk t).view.emb y = z
  have hz0 : (z 0 : ℕ) = (y 0).val := by rw [← hz]; blk_simp; omega
  have hz1 : (z 1 : ℕ) = min t.val 11 * 1024 + (y 1).val := by rw [← hz]; blk_simp; omega
  obtain ⟨u, v, rfl⟩ : ∃ (u : Fin 256) (v : Fin 1024), y = ix2 (n0 := 256) (n1 := 1024) u v := ⟨y 0, y 1, eq_ix2 y⟩
  show rows m c (min t.val 11) (ix2 (n0 := 256) (n1 := 1024) u v) = _
  rw [rows_at m c hx ⟨min t.val 11, by omega⟩ u v]
  have hz1' : (z 1 : ℕ) = min t.val 11 * 1024 + v.val := hz1
  have hv := v.isLt
  unfold xArr
  congr 1
  · exact Fin.ext hz0.symm
  · exact Fin.ext (by show min t.val 11 = (z 1).val / 1024; omega)
  · exact Fin.ext (by show v.val = (z 1).val % 1024; omega)

end Cert.KernelIdeal.Hand

end
-- ==== Proof.Finite.lean ====
/-
  The precondition in words: every entry of the rows is a real number.
-/
module

public import proofs.«01_k».proof.Defs
public import proofs.«01_k».proof.Proof.Gen.Pre_finite_x
public import proofs.«01_k».proof.Proof.KernelIdeal.Arrays

@[expose] public section

set_option maxRecDepth 16384

noncomputable section

namespace Cert

open Idealize.ShloMosaic Idealize.ShloMosaic.TcCoe

/-- A value whose size is below infinity is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

theorem finite_of_pre {m : (ℓ : Loc Cert.KernelIdeal.nD Cert.KernelIdeal.τ Cert.KernelIdeal.sig) → Buf (Elt Ideal) ℓ}
    (h : Pre_KernelIdeal_finite_x (hPre_finite_x := Cert.Pre_finite_x.Gen.facts) m) (c : Dev Cert.KernelIdeal.nD) : Cert.KernelIdeal.Hand.Finite m c := fun i =>
  real_of_abs_lt _ (congrFun (h c) i)

end Cert

end
-- ==== Proof.Reference.lean ====
/-
  The reference's two results are the arrays of Spec.lean.
-/
module

public import proofs.«01_k».proof.Proof.Gen.ReferenceIdeal.Read
public import proofs.«01_k».proof.Proof.Spec
public import Idealize.ShloMosaic.Lib.Pointwise
public import Idealize.ShloMosaic.Lib.ValueIdxCore

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : S2x128x12288.Idx → EReal) (x1 : S12288.Idx → BitVec 8)
  (x2 : S256x2.Idx → BitVec 16) (x3 : S6144x4096.Idx → BitVec 8) (x4 : S12x4096.Idx → EReal)

/-- The Hadamard matrix, read at an index. -/
theorem h_at (k v : Fin 1024) : val_main_v15 (F := Ideal) (ix2 (n0 := 1024) (n1 := 1024) k v) = ((Hadamard.H k.val v.val : ℝ) : EReal) := by
  rw [← Hadamard.H_word]
  unfold val_main_v15 val_main_v14 val_main_v12 val_main_v11 val_main_v10 val_main_v13 val_main_v9 val_main_c val_main_c_0 val_main_c_1
    val_main_v8 val_main_v7 val_main_v6 val_main_v5 val_main_v4 val_main_v3 val_main_v2 val_main_v1
  pointwise
  rfl

/-- The signed rows. -/
theorem xs_at (b : Fin 2) (r : Fin 128) (g : Fin 12) (k : Fin 1024) :
    val_main_v22 (F := Ideal) x0 x1 (ix4 (n0 := 2) (n1 := 128) (n2 := 12) (n3 := 1024) b r g k)
      = Spec.xsg x0 x1 ⟨b.val * 128 + r.val, by omega⟩ g k := by
  unfold val_main_v22 val_main_v21 val_main_v20 val_main_v19 val_main_v18 val_main_v17 val_main_v16 Spec.xsg
  pointwise
  have e : FloatOps.sitofp (F := Ideal) FTy.bf16 (BitVec.signExtend 32 (x1 (ix1 (n0 := 12288) ⟨g.val * 1024 + k.val, by omega⟩)))
      = (((x1 (ix1 (n0 := 12288) ⟨g.val * 1024 + k.val, by omega⟩)).toInt : ℝ) : EReal) := by
    show (((BitVec.signExtend 32 (x1 _)).toInt : ℝ) : EReal) = _
    rw [BitVec.toInt_signExtend_of_le (by decide)]
  rw [e]
  have e1 : (b.val * 128 + r.val) / 128 = b.val := by omega
  have e2 : (b.val * 128 + r.val) % 128 = r.val := by omega
  simp only [e1, e2]

/-- The rotated rows. -/
theorem rot_at (b : Fin 2) (r : Fin 128) (g : Fin 12) (i : Fin 1024) :
    val_main_v26 (F := Ideal) x0 x1 (ix4 (n0 := 2) (n1 := 128) (n2 := 12) (n3 := 1024) b r g i)
      = Spec.rot x0 x1 ⟨b.val * 128 + r.val, by omega⟩ g i := by
  unfold val_main_v26 val_main_v25 val_main_v24 val_main_v23 val_main_cst Spec.rot
  simp only [← h_at, ← xs_at]
  generalize val_main_v22 (F := Ideal) x0 x1 = y
  generalize val_main_v15 (F := Ideal) = z
  pointwise

/-- The table's rows at the codes. -/
theorem gather_at (x : S256x2.Idx → EReal) (idx : IVec S12x512x4096x1 32) (g : Fin 12) (j : Fin 512) (n : Fin 4096) (k : Fin 2) :
    Host.gather gather_S256x2_S12x512x4096x1_S12x512x4096x2_3_0_n_n_0_3_12 x idx (ix4 (n0 := 12) (n1 := 512) (n2 := 4096) (n3 := 2) g j n k)
      = x (ix2 (n0 := 256) (n1 := 2) ⟨min (idx (ix4 (n0 := 12) (n1 := 512) (n2 := 4096) (n3 := 1) g j n 0)).toInt.toNat 255, by omega⟩ k) := by
  unfold Host.gather
  congr 1
  funext a
  refine Fin.ext ?_
  show GatherDims.start _ _ idx a + GatherDims.batchCoord _ _ a + GatherDims.offCoord _ _ a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ (fun h => List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x2_S12x512x4096x1_S12x512x4096x2_3_0_n_n_0_3_12.startIndexMap from List.mem_singleton.mpr rfl)]
    have hsi : gather_S256x2_S12x512x4096x1_S12x512x4096x2_3_0_n_n_0_3_12.siIdx (ix4 (n0 := 12) (n1 := 512) (n2 := 4096) (n3 := 2) g j n k)
        ⟨List.idxOf (0 : Fin 2) gather_S256x2_S12x512x4096x1_S12x512x4096x2_3_0_n_n_0_3_12.startIndexMap, List.idxOf_lt_length_iff.2 (List.mem_singleton.mpr rfl)⟩
        = ix4 (n0 := 12) (n1 := 512) (n2 := 4096) (n3 := 1) g j n 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => List.not_mem_nil h)]
    unfold GatherDims.start
    rw [dif_neg (show (1 : Fin 2) ∉ gather_S256x2_S12x512x4096x1_S12x512x4096x2_3_0_n_n_0_3_12.startIndexMap from by decide)]
    simp only [Nat.zero_add, Nat.add_zero]
    rfl

/-- The start index: a code is no negative number. -/
theorem code_at (g : Fin 12) (j : Fin 512) (n : Fin 4096) :
    val_main_v41 (F := Ideal) x3 (ix4 (n0 := 12) (n1 := 512) (n2 := 4096) (n3 := 1) g j n 0)
      = (x3 (ix2 (n0 := 6144) (n1 := 4096) ⟨g.val * 512 + j.val, by omega⟩ n)).setWidth 32 := by
  unfold val_main_v41 val_main_v40 val_main_v39 val_main_v38 val_main_v37 val_main_v36 val_main_v33 val_main_v32 val_main_c_2 val_main_c_3
  pointwise
  generalize x3 _ = w
  have hw := w.isLt
  have h : IntOp.cmpi CmpIPredicate.slt (BitVec.setWidth 32 w) 0#32 = 0#1 := by
    revert w; decide
  rw [h]
  rfl

/-- The decoded parts of the table. -/
theorem table_at (g : Fin 12) (j : Fin 512) (n : Fin 4096) (k : Fin 2) :
    val_main_v42 (F := Ideal) x2 x3 (ix4 (n0 := 12) (n1 := 512) (n2 := 4096) (n3 := 2) g j n k)
      = Ideal.ofBits .bf16 (x2 (ix2 (n0 := 256) (n1 := 2) (x3 (ix2 (n0 := 6144) (n1 := 4096) ⟨g.val * 512 + j.val, by omega⟩ n)).toFin k)) := by
  unfold val_main_v42
  rw [gather_at]
  refine congrArg (fun q => Ideal.ofBits .bf16 (x2 (ix2 (n0 := 256) (n1 := 2) q k))) (Fin.ext ?_)
  show min ((val_main_v41 (F := Ideal) x3 (ix4 (n0 := 12) (n1 := 512) (n2 := 4096) (n3 := 1) g j n 0)).toInt.toNat) 255 = _
  rw [code_at]
  generalize x3 _ = w
  have hw := w.isLt
  have e : (w.setWidth 32).toInt = w.toNat := by
    rw [BitVec.toInt_eq_toNat_of_lt (by rw [BitVec.toNat_setWidth]; omega), BitVec.toNat_setWidth, Nat.mod_eq_of_lt (by omega)]
  rw [e]
  show min w.toNat 255 = w.toNat
  omega

theorem w0_at (g : Fin 12) (j : Fin 512) (n : Fin 4096) :
    val_main_v46 (F := Ideal) x2 x3 x4 (ix3 (n0 := 12) (n1 := 512) (n2 := 4096) g j n) = Spec.wt x2 x3 x4 g ⟨2 * j.val, by omega⟩ n := by
  have e := table_at x2 x3 g j n 0
  unfold val_main_v46 val_main_v44 val_main_v43 val_main_v45 val_main_v35 val_main_v34 Spec.wt
  generalize val_main_v42 (F := Ideal) x2 x3 = y at e ⊢
  pointwise
  rw [e]
  have e1 : (2 * j.val) / 2 = j.val := by omega
  have e2 : (2 * j.val) % 2 = 0 := by omega
  simp only [e1, e2]
  rfl

theorem w1_at (g : Fin 12) (j : Fin 512) (n : Fin 4096) :
    val_main_v50 (F := Ideal) x2 x3 x4 (ix3 (n0 := 12) (n1 := 512) (n2 := 4096) g j n) = Spec.wt x2 x3 x4 g ⟨2 * j.val + 1, by omega⟩ n := by
  have e := table_at x2 x3 g j n 1
  unfold val_main_v50 val_main_v48 val_main_v47 val_main_v49 val_main_v35 val_main_v34 Spec.wt
  generalize val_main_v42 (F := Ideal) x2 x3 = y at e ⊢
  pointwise
  rw [e]
  have e1 : (2 * j.val + 1) / 2 = j.val := by omega
  have e2 : (2 * j.val + 1) % 2 = 1 := by omega
  simp only [e1, e2]
  rfl

theorem r0_at (b : Fin 2) (r : Fin 128) (g : Fin 12) (j : Fin 512) :
    val_main_v29 (F := Ideal) x0 x1 (ix4 (n0 := 2) (n1 := 128) (n2 := 12) (n3 := 512) b r g j)
      = Spec.rot x0 x1 ⟨b.val * 128 + r.val, by omega⟩ g ⟨2 * j.val, by omega⟩ := by
  rw [← rot_at]
  unfold val_main_v29 val_main_v28 val_main_v27
  generalize val_main_v26 (F := Ideal) x0 x1 = y
  pointwise
  rw [show (⟨j.val * 2, _⟩ : Fin 1024) = ⟨2 * j.val, by omega⟩ from Fin.ext (Nat.mul_comm _ _)]

theorem r1_at (b : Fin 2) (r : Fin 128) (g : Fin 12) (j : Fin 512) :
    val_main_v31 (F := Ideal) x0 x1 (ix4 (n0 := 2) (n1 := 128) (n2 := 12) (n3 := 512) b r g j)
      = Spec.rot x0 x1 ⟨b.val * 128 + r.val, by omega⟩ g ⟨2 * j.val + 1, by omega⟩ := by
  rw [← rot_at]
  unfold val_main_v31 val_main_v30 val_main_v27
  generalize val_main_v26 (F := Ideal) x0 x1 = y
  pointwise
  rw [show (⟨j.val * 2 + 1, _⟩ : Fin 1024) = ⟨2 * j.val + 1, by omega⟩ from Fin.ext (congrArg (· + 1) (Nat.mul_comm _ _))]

/-- A sum over 1024 rows, the even and the odd ones apart. -/
theorem sum_even_odd (f : Fin 1024 → EReal) :
    ∑ k : Fin 1024, f k = ∑ j : Fin 512, f ⟨2 * j.val, by omega⟩ + ∑ j : Fin 512, f ⟨2 * j.val + 1, by omega⟩ := by
  rw [← Finset.sum_add_distrib, ← Equiv.sum_comp (finProdFinEquiv : Fin 512 × Fin 2 ≃ Fin 1024), Fintype.sum_prod_type]
  refine Finset.sum_congr rfl fun j _ => ?_
  rw [Fin.sum_univ_two]
  congr 2
  · exact Fin.ext (by show 0 + 2 * j.val = 2 * j.val; omega)
  · exact Fin.ext (by show 1 + 2 * j.val = 2 * j.val + 1; omega)

/-- The product. -/
theorem y_at (b : Fin 2) (r : Fin 128) (n : Fin 4096) :
    val_main_v54 (F := Ideal) x0 x1 x2 x3 x4 (ix3 (n0 := 2) (n1 := 128) (n2 := 4096) b r n)
      = Spec.out x0 x1 x2 x3 x4 ⟨b.val * 128 + r.val, by omega⟩ n := by
  unfold Spec.out
  simp only [sum_even_odd, Finset.sum_add_distrib]
  simp only [← r0_at, ← r1_at, ← w0_at, ← w1_at]
  unfold val_main_v54 val_main_v53 val_main_v52 val_main_v51
  generalize val_main_v29 (F := Ideal) x0 x1 = y0
  generalize val_main_v31 (F := Ideal) x0 x1 = y1
  generalize val_main_v46 (F := Ideal) x2 x3 x4 = z0
  generalize val_main_v50 (F := Ideal) x2 x3 x4 = z1
  pointwise

/-- A row number from its two parts. -/
theorem row_eq (u : Fin 256) (h : u.val / 128 * 128 + u.val % 128 < 256) : (⟨u.val / 128 * 128 + u.val % 128, h⟩ : Fin 256) = u :=
  Fin.ext (by show u.val / 128 * 128 + u.val % 128 = u.val; omega)

theorem y_final : val_main_v55 (F := Ideal) x0 x1 x2 x3 x4 = fun i => Spec.out x0 x1 x2 x3 x4 (i 0) (i 1) := by
  funext i
  obtain ⟨u, n, rfl⟩ : ∃ (u : Fin 256) (n : Fin 4096), i = ix2 (n0 := 256) (n1 := 4096) u n := ⟨i 0, i 1, eq_ix2 i⟩
  have e := y_at x0 x1 x2 x3 x4 ⟨u.val / 128, by omega⟩ ⟨u.val % 128, by omega⟩ n
  unfold val_main_v55
  generalize val_main_v54 (F := Ideal) x0 x1 x2 x3 x4 = y at e ⊢
  pointwise
  rw [e, row_eq]

theorem x_final : val_main_v56 (F := Ideal) x0 x1 = fun i => Spec.rot x0 x1 (i 0)
    ⟨(i 1).val / 1024, by have := (i 1).isLt; change (i 1).val < 12288 at this; omega⟩ ⟨(i 1).val % 1024, Nat.mod_lt _ (by decide)⟩ := by
  funext i
  obtain ⟨u, n, rfl⟩ : ∃ (u : Fin 256) (n : Fin 12288), i = ix2 (n0 := 256) (n1 := 12288) u n := ⟨i 0, i 1, eq_ix2 i⟩
  have e := rot_at x0 x1 ⟨u.val / 128, by omega⟩ ⟨u.val % 128, by omega⟩ ⟨n.val / 1024, by omega⟩ ⟨n.val % 1024, by omega⟩
  unfold val_main_v56
  generalize val_main_v26 (F := Ideal) x0 x1 = y at e ⊢
  pointwise
  rw [e, row_eq]

end Cert.ReferenceIdeal.Hand

end
-- ==== Proof.Algebraic.lean ====
/-
  The value claim: both programs leave the same two arrays, those of Spec.lean.
-/
module

public import proofs.«01_k».proof.Proof.Frames
public import proofs.«01_k».proof.Proof.Finite
public import proofs.«01_k».proof.Proof.Reference

@[expose] public section

set_option maxRecDepth 16384

noncomputable section

namespace Cert

open Idealize.ShloMosaic Idealize.ShloMosaic.TcCoe

theorem algebraic : algebraic_KernelIdeal_ReferenceIdeal_pre_finite_x (hKernelIdeal := Cert.KernelIdeal.Gen.facts)
    (hReferenceIdeal := Cert.ReferenceIdeal.Gen.facts) (hPre_finite_x := Cert.Pre_finite_x.Gen.facts) := by
  intro m g m' g' hpre hargs
  refine ⟨fun c => KernelIdeal.Hand.yArr m c, fun c => KernelIdeal.Hand.xArr m c, ?_, ?_⟩
  · refine (θ_run _ _ _).mono (fun _ h c => ⟨?_, ?_, KernelIdeal.Hand.final_args h.1 c⟩) (KernelIdeal.Hand.run_main m g)
    · exact (h.1.out_eq c 5).trans (KernelIdeal.Hand.y_final m c (finite_of_pre hpre c))
    · exact (h.1.out_eq c 6).trans (KernelIdeal.Hand.x_final m c (finite_of_pre hpre c))
  · refine (θ_run _ _ _).mono (fun _ h c => ⟨(h c).1.trans ?_, (h c).2.1.trans ?_, (h c).2.2⟩) (ReferenceIdeal.Value.run m' g')
    · obtain ⟨e0, e1, e2, e3, e4⟩ := hargs c
      rw [ReferenceIdeal.Read.val_main_v55_eq m' c, e0, e1, e2, e3, e4]
      exact ReferenceIdeal.Hand.y_final _ _ _ _ _
    · obtain ⟨e0, e1, -, -, -⟩ := hargs c
      rw [e0, e1]
      exact (ReferenceIdeal.Read.val_main_v56_eq _ _).trans (ReferenceIdeal.Hand.x_final _ _)

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_x
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_x.Gen.facts,
  frame_Kernel, frame_KernelIdeal, fun m g _ => frame_KernelIdeal m g trivial, frame_ReferenceIdeal,
  fun m g _ => frame_ReferenceIdeal m g trivial, trivial, algebraic⟩

end Cert.Proof

end
